-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_in_range [hPre_scales_in_range : Cert.Pre_scales_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_scales_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_in_range [hPre_scales_in_range : Cert.Pre_scales_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_scales_in_range [hKernelIdeal : Cert.KernelIdeal.Facts] [hPre_scales_in_range : Cert.Pre_scales_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_scales_in_range [hReferenceIdeal : Cert.ReferenceIdeal.Facts] [hPre_scales_in_range : Cert.Pre_scales_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_scales_in_range [hKernelIdeal : Cert.KernelIdeal.Facts] [hReferenceIdeal : Cert.ReferenceIdeal.Facts] [hPre_scales_in_range : Cert.Pre_scales_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4_0) = v0 c
          ∧ r.2.mem ((c.tc : Thread Cert.ReferenceIdeal.nD Cert.ReferenceIdeal.τ).loc Cert.ReferenceIdeal.main_v4_1) = v1 c
          ∧ r.2.mem ((c.tc : Thread Cert.ReferenceIdeal.nD Cert.ReferenceIdeal.τ).loc Cert.ReferenceIdeal.main_v4_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_scales_in_range : Cert.Pre_scales_in_range.Facts),
    quiescent_Kernel (hKernel := hKernel)
    ∧ quiescent_KernelIdeal (hKernelIdeal := hKernelIdeal)
    ∧ quiescent_KernelIdeal_pre_scales_in_range (hKernelIdeal := hKernelIdeal) (hPre_scales_in_range := hPre_scales_in_range)
    ∧ quiescent_ReferenceIdeal (hReferenceIdeal := hReferenceIdeal)
    ∧ quiescent_ReferenceIdeal_pre_scales_in_range (hReferenceIdeal := hReferenceIdeal) (hPre_scales_in_range := hPre_scales_in_range)
    ∧ preserves_Kernel_KernelIdeal
    ∧ algebraic_KernelIdeal_ReferenceIdeal_pre_scales_in_range (hKernelIdeal := hKernelIdeal) (hReferenceIdeal := hReferenceIdeal) (hPre_scales_in_range := hPre_scales_in_range)
-- ==== Pre_scales_in_range.lean ====
abbrev S2x256x1024 : Shape := ⟨3, ![2, 256, 1024]⟩
abbrev S8192x1024 : Shape := ⟨2, ![8192, 1024]⟩
abbrev S64x8 : Shape := ⟨2, ![64, 8]⟩
abbrev S512x8x128 : Shape := ⟨3, ![512, 8, 128]⟩
abbrev S_ : Shape := ⟨0, ![]⟩
abbrev S512x8 : Shape := ⟨2, ![512, 8]⟩

class Facts : Prop where
  bitsLt_bf16_f32 : FTy.bits .bf16 < FTy.bits .f32
  shapeCasts_S2x256x1024_S512x8x128 : S2x256x1024.ShapeCasts S512x8x128
  reducesTo_S512x8x128_S512x8_d2 : S512x8x128.ReducesTo [2] S512x8
  h_S_ : 0 < S_.numel
  bcast_S_S512x8 : S_.BroadcastsInDim S512x8 (![] : Fin 0 → Fin S512x8.rank)

variable [Facts]

def fn {F : FTy → Type} [FloatOps F] (main_arg0 : FVec F S2x256x1024 .bf16) (main_arg1 : FVec F S8192x1024 .fp8e4m3) (main_arg2 : FVec F S64x8 .f32) : IVec S512x8 1 :=
  let main_v0 : FVec F S2x256x1024 .f32 := (extf .f32 · bitsLt_bf16_f32) main_arg0
  let main_v1 : FVec F S512x8x128 .f32 := shapeCast S512x8x128 main_v0 shapeCasts_S2x256x1024_S512x8x128
  let main_v2 : FVec F S512x8x128 .f32 := Host.absf main_v1
  let main_cst : FVec F S_ .f32 := constant S_ .f32 0xFF800000#32
  let main_v3 : FVec F S512x8 .f32 := (fun x v => Host.reduce FloatOps.maximumf x v reducesTo_S512x8x128_S512x8_d2 h_S_) main_v2 main_cst
  let main_cst_0 : FVec F S_ .f32 := constant S_ .f32 0x3B124925#32
  let main_v4 : FVec F S512x8 .f32 := broadcastInDim S512x8 ![] bcast_S_S512x8 main_cst_0
  let main_v5 : FVec F S512x8 .f32 := mulf main_v3 main_v4
  let main_cst_1 : FVec F S_ .f32 := constant S_ .f32 0x00000000#32
  let main_v6 : FVec F S512x8 .f32 := broadcastInDim S512x8 ![] bcast_S_S512x8 main_cst_1
  let main_v7 : IVec S512x8 1 := cmpf .oeq main_v5 main_v6
  let main_cst_2 : FVec F S_ .f32 := constant S_ .f32 0x7F800000#32
  let main_v8 : FVec F S512x8 .f32 := broadcastInDim S512x8 ![] bcast_S_S512x8 main_cst_2
  let main_v9 : IVec S512x8 1 := cmpf .oeq main_v5 main_v8
  let main_v10 : IVec S512x8 1 := ori main_v7 main_v9
  let main_cst_3 : FVec F S_ .f32 := constant S_ .f32 0x00800000#32
  let main_v11 : FVec F S512x8 .f32 := broadcastInDim S512x8 ![] bcast_S_S512x8 main_cst_3
  let main_v12 : IVec S512x8 1 := cmpf .oge main_v5 main_v11
  let main_cst_4 : FVec F S_ .f32 := constant S_ .f32 0x7E800000#32
  let main_v13 : FVec F S512x8 .f32 := broadcastInDim S512x8 ![] bcast_S_S512x8 main_cst_4
  let main_v14 : IVec S512x8 1 := cmpf .olt main_v5 main_v13
  let main_v15 : IVec S512x8 1 := andi main_v12 main_v14
  let main_v16 : IVec S512x8 1 := ori main_v10 main_v15
  main_v16
-- ==== Kernel.lean ====
abbrev S2x256x1024 : Shape := ⟨3, ![2, 256, 1024]⟩
abbrev S8192x1024 : Shape := ⟨2, ![8192, 1024]⟩
abbrev S64x8 : Shape := ⟨2, ![64, 8]⟩
abbrev S64x128x8 : Shape := ⟨3, ![64, 128, 8]⟩
abbrev S8192x8 : Shape := ⟨2, ![8192, 8]⟩
abbrev S8x8192 : Shape := ⟨2, ![8, 8192]⟩
abbrev S512x1024 : Shape := ⟨2, ![512, 1024]⟩
abbrev S512x8192 : Shape := ⟨2, ![512, 8192]⟩
abbrev S512x8 : Shape := ⟨2, ![512, 8]⟩
abbrev S8x512 : Shape := ⟨2, ![8, 512]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S512x256 : Shape := ⟨2, ![512, 256]⟩
abbrev S1x512 : Shape := ⟨2, ![1, 512]⟩

abbrev nBuf : Space → Nat
  | .hbm => 10
  | .vmem => 9
  | .smem => 0
  | _ => 0

abbrev bufTy : (tb : Table) → Fin (tcTables nBuf tb) → BufTy
  | .hbm, ⟨0, _⟩ => ⟨S2x256x1024, .bf16⟩
  | .hbm, ⟨1, _⟩ => ⟨S8192x1024, .fp8e4m3⟩
  | .hbm, ⟨2, _⟩ => ⟨S64x8, .f32⟩
  | .hbm, ⟨3, _⟩ => ⟨S64x128x8, .f32⟩
  | .hbm, ⟨4, _⟩ => ⟨S8192x8, .f32⟩
  | .hbm, ⟨5, _⟩ => ⟨S8x8192, .f32⟩
  | .hbm, ⟨6, _⟩ => ⟨S512x1024, .bf16⟩
  | .hbm, ⟨7, _⟩ => ⟨S512x8192, .bf16⟩
  | .hbm, ⟨8, _⟩ => ⟨S512x1024, .fp8e4m3⟩
  | .hbm, ⟨9, _⟩ => ⟨S512x8, .f32⟩
  | .local _ .vmem, ⟨0, _⟩ => ⟨S512x1024, .bf16⟩
  | .local _ .vmem, ⟨1, _⟩ => ⟨S512x1024, .fp8e4m3⟩
  | .local _ .vmem, ⟨2, _⟩ => ⟨S512x1024, .fp8e4m3⟩
  | .local _ .vmem, ⟨3, _⟩ => ⟨S8x512, .f32⟩
  | .local _ .vmem, ⟨4, _⟩ => ⟨S8x512, .f32⟩
  | .local _ .vmem, ⟨5, _⟩ => ⟨S512x512, .bf16⟩
  | .local _ .vmem, ⟨6, _⟩ => ⟨S512x512, .bf16⟩
  | .local _ .vmem, ⟨7, _⟩ => ⟨S512x1024, .fp8e4m3⟩
  | .local _ .vmem, ⟨8, _⟩ => ⟨S512x8, .f32⟩
  | _, _ => ⟨S2x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x1024 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S2x256x1024 : Shape := ⟨3, ![2, 256, 1024]⟩
abbrev S8192x1024 : Shape := ⟨2, ![8192, 1024]⟩
abbrev S64x8 : Shape := ⟨2, ![64, 8]⟩
abbrev S64x128x8 : Shape := ⟨3, ![64, 128, 8]⟩
abbrev S8192x8 : Shape := ⟨2, ![8192, 8]⟩
abbrev S8x8192 : Shape := ⟨2, ![8, 8192]⟩
abbrev S512x1024 : Shape := ⟨2, ![512, 1024]⟩
abbrev S512x8192 : Shape := ⟨2, ![512, 8192]⟩
abbrev S512x8 : Shape := ⟨2, ![512, 8]⟩
abbrev S512x8x128 : Shape := ⟨3, ![512, 8, 128]⟩
abbrev S512x8x1 : Shape := ⟨3, ![512, 8, 1]⟩
abbrev S8192x8x128 : Shape := ⟨3, ![8192, 8, 128]⟩
abbrev S8x512x128 : Shape := ⟨3, ![8, 512, 128]⟩
abbrev S8x8192x128 : Shape := ⟨3, ![8, 8192, 128]⟩
abbrev S8x512x8192 : Shape := ⟨3, ![8, 512, 8192]⟩
abbrev S8x512 : Shape := ⟨2, ![8, 512]⟩
abbrev S8x512x1 : Shape := ⟨3, ![8, 512, 1]⟩
abbrev S8x1x8192 : Shape := ⟨3, ![8, 1, 8192]⟩

abbrev nBuf : Space → Nat
  | .hbm => 10
  | .vmem => 6
  | .smem => 0
  | _ => 0

abbrev bufTy : (tb : Table) → Fin (tcTables nBuf tb) → BufTy
  | .hbm, ⟨0, _⟩ => ⟨S2x256x1024, .bf16⟩
  | .hbm, ⟨1, _⟩ => ⟨S8192x1024, .fp8e4m3⟩
  | .hbm, ⟨2, _⟩ => ⟨S64x8, .f32⟩
  | .hbm, ⟨3, _⟩ => ⟨S64x128x8, .f32⟩
  | .hbm, ⟨4, _⟩ => ⟨S8192x8, .f32⟩
  | .hbm, ⟨5, _⟩ => ⟨S8x8192, .f32⟩
  | .hbm, ⟨6, _⟩ => ⟨S512x1024, .bf16⟩
  | .hbm, ⟨7, _⟩ => ⟨S512x8192, .bf16⟩
  | .hbm, ⟨8, _⟩ => ⟨S512x1024, .fp8e4m3⟩
  | .hbm, ⟨9, _⟩ => ⟨S512x8, .f32⟩
  | .local _ .vmem, ⟨0, _⟩ => ⟨S512x1024, .bf16⟩
  | .local _ .vmem, ⟨1, _⟩ => ⟨S8192x1024, .fp8e4m3⟩
  | .local _ .vmem, ⟨2, _⟩ => ⟨S8x8192, .f32⟩
  | .local _ .vmem, ⟨3, _⟩ => ⟨S512x8192, .bf16⟩
  | .local _ .vmem, ⟨4, _⟩ => ⟨S512x1024, .fp8e4m3⟩
  | .local _ .vmem, ⟨5, _⟩ => ⟨S512x8, .f32⟩
  | _, _ => ⟨S2x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x1024 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x8192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x1024 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.PrintedOuts.lean ====
/-
  The printed kernel, at every reading of the floats: what one run of its body leaves in its three result buffers,
  written from the payloads its stores carry.
-/
module

public import proofs.«01_k».proof.Proof.Gen.Kernel.Frame
public import proofs.«01_k».proof.Proof.Gen.Kernel.Skeleton
public import proofs.«01_k».proof.Proof.Gen.Kernel.Points

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body loads and stores through

`rC` are the eight blocks of 128 columns, `rS` the eight columns of scales, `rW` the eight rows of weight scales, `rY` the whole
block of `y`. -/

abbrev rC_0_0 : Rect S512x1024 := Rect.unit (s := S512x1024) ![0, 0] S512x128.size inb_S512x1024_S512x128_0_0
abbrev rS_0_0 : Rect S512x8 := Rect.unit (s := S512x8) ![0, 0] S512x1.size inb_S512x8_S512x1_0_0
abbrev rC_0_128 : Rect S512x1024 := Rect.unit (s := S512x1024) ![0, 128] S512x128.size inb_S512x1024_S512x128_0_128
abbrev rS_0_1 : Rect S512x8 := Rect.unit (s := S512x8) ![0, 1] S512x1.size inb_S512x8_S512x1_0_1
abbrev rC_0_256 : Rect S512x1024 := Rect.unit (s := S512x1024) ![0, 256] S512x128.size inb_S512x1024_S512x128_0_256
abbrev rS_0_2 : Rect S512x8 := Rect.unit (s := S512x8) ![0, 2] S512x1.size inb_S512x8_S512x1_0_2
abbrev rC_0_384 : Rect S512x1024 := Rect.unit (s := S512x1024) ![0, 384] S512x128.size inb_S512x1024_S512x128_0_384
abbrev rS_0_3 : Rect S512x8 := Rect.unit (s := S512x8) ![0, 3] S512x1.size inb_S512x8_S512x1_0_3
abbrev rC_0_512 : Rect S512x1024 := Rect.unit (s := S512x1024) ![0, 512] S512x128.size inb_S512x1024_S512x128_0_512
abbrev rS_0_4 : Rect S512x8 := Rect.unit (s := S512x8) ![0, 4] S512x1.size inb_S512x8_S512x1_0_4
abbrev rC_0_640 : Rect S512x1024 := Rect.unit (s := S512x1024) ![0, 640] S512x128.size inb_S512x1024_S512x128_0_640
abbrev rS_0_5 : Rect S512x8 := Rect.unit (s := S512x8) ![0, 5] S512x1.size inb_S512x8_S512x1_0_5
abbrev rC_0_768 : Rect S512x1024 := Rect.unit (s := S512x1024) ![0, 768] S512x128.size inb_S512x1024_S512x128_0_768
abbrev rS_0_6 : Rect S512x8 := Rect.unit (s := S512x8) ![0, 6] S512x1.size inb_S512x8_S512x1_0_6
abbrev rC_0_896 : Rect S512x1024 := Rect.unit (s := S512x1024) ![0, 896] S512x128.size inb_S512x1024_S512x128_0_896
abbrev rS_0_7 : Rect S512x8 := Rect.unit (s := S512x8) ![0, 7] S512x1.size inb_S512x8_S512x1_0_7
abbrev rW_0_0 : Rect S8x512 := Rect.unit (s := S8x512) ![0, 0] S1x512.size inb_S8x512_S1x512_0_0
abbrev rW_1_0 : Rect S8x512 := Rect.unit (s := S8x512) ![1, 0] S1x512.size inb_S8x512_S1x512_1_0
abbrev rW_2_0 : Rect S8x512 := Rect.unit (s := S8x512) ![2, 0] S1x512.size inb_S8x512_S1x512_2_0
abbrev rW_3_0 : Rect S8x512 := Rect.unit (s := S8x512) ![3, 0] S1x512.size inb_S8x512_S1x512_3_0
abbrev rW_4_0 : Rect S8x512 := Rect.unit (s := S8x512) ![4, 0] S1x512.size inb_S8x512_S1x512_4_0
abbrev rW_5_0 : Rect S8x512 := Rect.unit (s := S8x512) ![5, 0] S1x512.size inb_S8x512_S1x512_5_0
abbrev rW_6_0 : Rect S8x512 := Rect.unit (s := S8x512) ![6, 0] S1x512.size inb_S8x512_S1x512_6_0
abbrev rW_7_0 : Rect S8x512 := Rect.unit (s := S8x512) ![7, 0] S1x512.size inb_S8x512_S1x512_7_0
abbrev rY_0_0 : Rect S512x512 := Rect.unit (s := S512x512) ![0, 0] S512x512.size inb_S512x512_S512x512_0_0

/-- The quantised activations as the first point leaves them: the eight column blocks it stores, last first, from the
    activations `x0`. -/
def codesOut (x0 : Vec F S512x1024 .bf16) : Vec F S512x1024 .fp8e4m3 :=
  View.canon
    [⟨rC_0_896, k0_pay49 (k0_pay44 (View.ld x0 rC_0_896)) (k0_pay48 (View.ld x0 rC_0_896))⟩,
     ⟨rC_0_768, (k0_pay43 (k0_pay38 (View.ld x0 rC_0_768)) (k0_pay39 (View.ld x0 rC_0_768)))⟩,
     ⟨rC_0_640, k0_pay37 (k0_pay31 (View.ld x0 rC_0_640)) (k0_pay32 (View.ld x0 rC_0_640)) ((iota .tc S512x256 32 [1] iota_S512x256_d1_w32)) k0_pay33⟩,
     ⟨rC_0_512, k0_pay30 (k0_pay25 (View.ld x0 rC_0_512)) (k0_pay26 (View.ld x0 rC_0_512))⟩,
     ⟨rC_0_384, k0_pay24 (k0_pay20 (View.ld x0 rC_0_384)) (k0_pay21 (View.ld x0 rC_0_384)) (k0_pay22 (View.ld x0 rC_0_384))⟩,
     ⟨rC_0_256, k0_pay19 (k0_pay14 (View.ld x0 rC_0_256)) (k0_pay15 (View.ld x0 rC_0_256)) (k0_pay16 (View.ld x0 rC_0_256)) 253#32⟩,
     ⟨rC_0_128, k0_pay13 (k0_pay8 (View.ld x0 rC_0_128)) (k0_pay11 (View.ld x0 rC_0_128))⟩,
     ⟨rC_0_0, k0_pay7 (k0_pay6 (View.ld x0 rC_0_0)) ((Scalar.ofBits .f32 0xC3E00000#32)) ((Scalar.ofBits .f32 0x43E00000#32))⟩]

/-- The activations' scales as the first point leaves them: the eight columns it stores, last first. -/
def scalesOut (x0 : Vec F S512x1024 .bf16) : Vec F S512x8 .f32 :=
  View.canon
    [⟨rS_0_7, k0_pay47 (View.ld x0 rC_0_896)⟩,
     ⟨rS_0_6, k0_pay42 (k0_pay39 (View.ld x0 rC_0_768))⟩,
     ⟨rS_0_5, k0_pay36 (k0_pay32 (View.ld x0 rC_0_640)) ((iota .tc S512x256 32 [1] iota_S512x256_d1_w32)) k0_pay33⟩,
     ⟨rS_0_4, k0_pay29 (F := F) (k0_pay26 (View.ld x0 rC_0_512))⟩,
     ⟨rS_0_3, k0_pay23 (F := F) (k0_pay21 (View.ld x0 rC_0_384)) (k0_pay22 (View.ld x0 rC_0_384)) 1#32⟩,
     ⟨rS_0_2, k0_pay18 (F := F) (k0_pay17 (View.ld x0 rC_0_256))⟩,
     ⟨rS_0_1, (k0_pay12 (View.ld x0 rC_0_128))⟩,
     ⟨rS_0_0, k0_pay5 (View.ld x0 rC_0_0)⟩]

/-- The block of `y` a point leaves, from the block of weights `x1`, the block of weight scales `x2`, the codes `x4` and the
    scales `x5`. -/
def yOut (x1 : Vec F S512x1024 .fp8e4m3) (x2 : Vec F S8x512 .f32) (x4 : Vec F S512x1024 .fp8e4m3) (x5 : Vec F S512x8 .f32) :
    Vec F S512x512 .bf16 :=
  View.canon [⟨rY_0_0, k0_pay1 (k0_pay54 (k0_pay52 (k0_pay50 (View.ld x4 rC_0_0) (View.ld x1 rC_0_0) (View.ld x5 rS_0_0) (View.ld x2 rW_0_0) (View.ld x4 rC_0_128) (View.ld x1 rC_0_128) (View.ld x5 rS_0_1) (View.ld x2 rW_1_0)) (k0_pay51 (View.ld x4 rC_0_256) (View.ld x1 rC_0_256)) (View.ld x5 rS_0_2) (View.ld x2 rW_2_0) (View.ld x4 rC_0_384) (View.ld x1 rC_0_384) (View.ld x5 rS_0_3) (View.ld x2 rW_3_0) (View.ld x4 rC_0_512) (View.ld x1 rC_0_512) (View.ld x5 rS_0_4) (View.ld x2 rW_4_0)) (k0_pay53 (View.ld x4 rC_0_640)) (View.ld x1 rC_0_640) (View.ld x5 rS_0_5) (View.ld x2 rW_5_0) (View.ld x4 rC_0_768) (View.ld x1 rC_0_768) (View.ld x5 rS_0_6) (View.ld x2 rW_6_0)) (k0_pay55 (View.ld x4 rC_0_896) (View.ld x1 rC_0_896) (View.ld x5 rS_0_7)) (k0_pay56 (View.ld x2 rW_7_0))⟩]

/-- The eight column blocks cover the buffer of codes. -/
theorem cover_codes (p0 p1 p2 p3 p4 p5 p6 p7 : Vec F S512x128 .fp8e4m3) (y : S512x1024.Idx) :
    ∃ pc ∈ ([⟨rC_0_896, p0⟩, ⟨rC_0_768, p1⟩, ⟨rC_0_640, p2⟩, ⟨rC_0_512, p3⟩, ⟨rC_0_384, p4⟩, ⟨rC_0_256, p5⟩, ⟨rC_0_128, p6⟩, ⟨rC_0_0, p7⟩] : List (View.Piece (Elt F) S512x1024 .fp8e4m3)), y ∈ pc.1.set :=
  View.cover_of_tiled [⟨rC_0_896, p0⟩, ⟨rC_0_768, p1⟩, ⟨rC_0_640, p2⟩, ⟨rC_0_512, p3⟩, ⟨rC_0_384, p4⟩, ⟨rC_0_256, p5⟩, ⟨rC_0_128, p6⟩, ⟨rC_0_0, p7⟩] S512x128.size (by rfl) y

/-- The eight columns cover the buffer of scales. -/
theorem cover_scales (p0 p1 p2 p3 p4 p5 p6 p7 : Vec F S512x1 .f32) (y : S512x8.Idx) :
    ∃ pc ∈ ([⟨rS_0_7, p0⟩, ⟨rS_0_6, p1⟩, ⟨rS_0_5, p2⟩, ⟨rS_0_4, p3⟩, ⟨rS_0_3, p4⟩, ⟨rS_0_2, p5⟩, ⟨rS_0_1, p6⟩, ⟨rS_0_0, p7⟩] : List (View.Piece (Elt F) S512x8 .f32)), y ∈ pc.1.set :=
  View.cover_of_tiled [⟨rS_0_7, p0⟩, ⟨rS_0_6, p1⟩, ⟨rS_0_5, p2⟩, ⟨rS_0_4, p3⟩, ⟨rS_0_3, p4⟩, ⟨rS_0_2, p5⟩, ⟨rS_0_1, p6⟩, ⟨rS_0_0, p7⟩] S512x1.size (by rfl) y

/-- The one store of `y` covers its block. -/
theorem cover_y (p : Vec F S512x512 .bf16) (y : S512x512.Idx) :
    ∃ pc ∈ ([⟨rY_0_0, p⟩] : List (View.Piece (Elt F) S512x512 .bf16)), y ∈ pc.1.set :=
  View.cover_of_tiled [⟨rY_0_0, p⟩] S512x512.size (by rfl) y

end Cert.Kernel.Body

end
-- ==== Proof.PrintedRunLater.lean ====
/-
  The printed kernel, at every reading of the floats: the body's triple at a point after the first. It reads the codes
  and the scales and writes its block of y.
-/
module

public import proofs.«01_k».proof.Proof.Gen.Kernel.Frame
public import proofs.«01_k».proof.Proof.Gen.Kernel.Skeleton
public import proofs.«01_k».proof.Proof.Gen.Kernel.Points
public import proofs.«01_k».proof.Proof.PrintedOuts

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- No point but the first holds the body's branch condition. -/
abbrev cond (i : grid0.Coords) : Prop := k0_cond1 i = 1#1

set_option maxHeartbeats 1000000 in
/-- At a point after the first the body, on whole buffers holding the activations, the weights' and the weight scales' blocks,
    anything, the codes and the scales, leaves its block of `y` at `yOut` and everything else as it was. -/
theorem run_later (c : Dev nD) (i : grid0.Coords) (arg1 : Memref sig .tc .vmem S512x1024 .bf16) (harg1 : arg1.IsWhole) (arg2 : Memref sig .tc .vmem S512x1024 .fp8e4m3) (harg2 : arg2.IsWhole) (arg3 : Memref sig .tc .vmem S8x512 .f32) (harg3 : arg3.IsWhole) (arg4 : Memref sig .tc .vmem S512x512 .bf16) (harg4 : arg4.IsWhole) (arg5 : Memref sig .tc .vmem S512x1024 .fp8e4m3) (harg5 : arg5.IsWhole) (arg6 : Memref sig .tc .vmem S512x8 .f32) (harg6 : arg6.IsWhole) (hc0 : ¬ cond i)
    (x0 : Vec F S512x1024 .bf16) (x1 : Vec F S512x1024 .fp8e4m3) (x2 : Vec F S8x512 .f32) (x4 : Vec F S512x1024 .fp8e4m3) (x5 : Vec F S512x8 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare x4 ∗ owns (c : Thread nD τ) arg6 fullShare x5
            ∗ (iprop(owns (c : Thread nD τ) arg1 fullShare x0 ∗ owns (c : Thread nD τ) arg2 fullShare x1 ∗ owns (c : Thread nD τ) arg3 fullShare x2 ∗ owns (c : Thread nD τ) arg4 fullShare (yOut x1 x2 x4 x5) ∗ owns (c : Thread nD τ) arg5 fullShare x4 ∗ owns (c : Thread nD τ) arg6 fullShare x5) -∗ K ⟨⟩))
          ⊢ wp frame (wpE (defs₀ (F := F)) Variants.none c none) E (cc0__body i arg1 harg1 arg2 harg2 arg3 harg3 arg4 harg4 arg5 harg5 arg6 harg6) K := by
    intro E K
    simp only [cc0__body_eq_skeleton]; unfold cc0__body_skel
    simp only [k0_part10_eq_skeleton, k0_part11_eq_skeleton, k0_part12_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, Hk⟩
    subst hf0 hf1 hf2 hf4 hf5
    sl_exec (disch := first | sl_exact hc0)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists _; isplitr
      swap; · iexact H3
      ipureintro
      exact View.read_writes_eq_canon _ _ _ (cover_y _)
    isplitl [H4]
    · iexists f4; isplitr; · ipureintro; rfl
      iexact H4
    iexists f5; isplitr; · ipureintro; rfl
    iexact H5

end Cert.Kernel.Body

end
-- ==== Proof.PrintedRunFirst.lean ====
/-
  The printed kernel, at every reading of the floats: the body's triple at the first point. It quantises the activations,
  then writes its block of y from what it has just stored.
-/
module

public import proofs.«01_k».proof.Proof.Gen.Kernel.Frame
public import proofs.«01_k».proof.Proof.Gen.Kernel.Skeleton
public import proofs.«01_k».proof.Proof.Gen.Kernel.Points
public import proofs.«01_k».proof.Proof.PrintedRunLater

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At the first point the body, on whole buffers holding the activations, the weights' and the weight scales' blocks and
    anything in its results', leaves the codes at `codesOut`, the scales at `scalesOut` and its block of `y` at `yOut` of them. -/
theorem run_first (c : Dev nD) (i : grid0.Coords) (arg1 : Memref sig .tc .vmem S512x1024 .bf16) (harg1 : arg1.IsWhole) (arg2 : Memref sig .tc .vmem S512x1024 .fp8e4m3) (harg2 : arg2.IsWhole) (arg3 : Memref sig .tc .vmem S8x512 .f32) (harg3 : arg3.IsWhole) (arg4 : Memref sig .tc .vmem S512x512 .bf16) (harg4 : arg4.IsWhole) (arg5 : Memref sig .tc .vmem S512x1024 .fp8e4m3) (harg5 : arg5.IsWhole) (arg6 : Memref sig .tc .vmem S512x8 .f32) (harg6 : arg6.IsWhole) (hc0 : cond i)
    (x0 : Vec F S512x1024 .bf16) (x1 : Vec F S512x1024 .fp8e4m3) (x2 : Vec F S8x512 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare (yOut x1 x2 (codesOut x0) (scalesOut x0)) ∗ owns (c : Thread nD τ) arg5 fullShare (codesOut x0) ∗ owns (c : Thread nD τ) arg6 fullShare (scalesOut x0)) -∗ K ⟨⟩))
          ⊢ wp frame (wpE (defs₀ (F := F)) Variants.none c none) E (cc0__body i arg1 harg1 arg2 harg2 arg3 harg3 arg4 harg4 arg5 harg5 arg6 harg6) K := by
    intro E K
    simp only [cc0__body_eq_skeleton]; unfold cc0__body_skel
    simp only [k0_part10_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part11_eq_skeleton, k0_part12_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
    subst hf0 hf1 hf2
    sl_exec (disch := first | sl_exact hc0)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists _; isplitr
      swap; · iexact H3
      ipureintro
      refine (View.read_writes_eq_canon _ _ _ (cover_y _)).trans ?_
      sl_unfold_words
      unfold yOut
      simp only [View.readCov_eq_canon_ld _ _ _ (cover_codes _ _ _ _ _ _ _ _), View.readCov_eq_canon_ld _ _ _ (cover_scales _ _ _ _ _ _ _ _)]
      rfl
    isplitl [H4]
    · iexists _; isplitr
      swap; · iexact H4
      ipureintro
      exact View.read_writes_eq_canon _ _ _ (cover_codes _ _ _ _ _ _ _ _)
    iexists _; isplitr
    swap; · iexact H5
    ipureintro
    exact View.read_writes_eq_canon _ _ _ (cover_scales _ _ _ _ _ _ _ _)

end Cert.Kernel.Body

end
-- ==== Proof.PrintedRun.lean ====
/-
  The printed kernel, at every reading of the floats: what its three result arrays hold once every grid point has run,
  and its frame.
-/
module

public import proofs.«01_k».proof.Proof.Gen.Kernel.Frame
public import proofs.«01_k».proof.Proof.Gen.Kernel.Skeleton
public import proofs.«01_k».proof.Proof.Gen.Kernel.Points
public import proofs.«01_k».proof.Proof.PrintedRunFirst
public import Idealize.ShloMosaic.Lib.Claim

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid's first point, and where the windows are idle -/

/-- The branch condition holds at the first point only. -/
theorem cond_iff : ∀ t : Fin cfg0.N, cond (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond, k0_cond1, e0]
    word_cmp
   : ∀ t : Fin grid0.N, cond (grid0.coords t) ↔ t.val % 16 = 0)

/-- The grid's first point. -/
abbrev t0 : Fin cfg0.N := ⟨0, lt_of_lt_of_eq (by decide) (show 16 = cfg0.N from N_0.symm)⟩

/-- The codes and the scales the first point leaves, from the activations its window holds. -/
def codesAt (c : Dev nD) : Vec F S512x1024 .fp8e4m3 := codesOut (iblk m c 0 t0)
def scalesAt (c : Dev nD) : Vec F S512x8 .f32 := scalesOut (iblk m c 0 t0)

/-- The pipeline's proof data: the arrays as the region finds them; after the body at point `t` each input's buffer at its block,
    the block of `y` at what the point's weights, the codes and the scales give, and the codes and the scales as the first point
    left them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => yOut (iblk m c 1 t) (iblk m c 2 t) (codesAt m c) (scalesAt m c)
    | ⟨4, _⟩ => codesAt m c
    | ⟨5, _⟩ => scalesAt m c
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = yOut (iblk m c 1 t) (iblk m c 2 t) (codesAt m c) (scalesAt m c) := by dsimp only [dats]
theorem after_4 (c : Dev nD) (t : Fin cfg0.N) : (dats m 0 c).after 4 t = codesAt m c := by dsimp only [dats]
theorem after_5 (c : Dev nD) (t : Fin cfg0.N) : (dats m 0 c).after 5 t = scalesAt m c := by dsimp only [dats]

/-- Each input's current buffer holds its block at every point. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- Window 4 and window 5 are live at the first point and idle after it. -/
theorem idle_4 (t : Fin cfg0.N) : cfg0.idle 4 (grid0.coords t) = !decide (t.val % 16 = 0) := by
  show (!(k0_cond1 (grid0.coords t) == 1#1)) = _
  by_cases h : t.val % 16 = 0
  · rw [(cond_iff t).mpr h]; simp [h]
  · rw [beq_eq_false_iff_ne.mpr (fun e => h ((cond_iff t).mp e))]; simp [h]
theorem idle_5 (t : Fin cfg0.N) : cfg0.idle 5 (grid0.coords t) = !decide (t.val % 16 = 0) := idle_4 t

/-- After the first point the codes' buffer holds the codes the first point left, whatever it held before the run. -/
theorem before_4 (c : Dev nD) (d) : ∀ (n : ℕ) (h : n < cfg0.N), n ≠ 0 → (dats m 0 c).before 4 ⟨n, h⟩ d = codesAt m c
  | 0, _, h0 => absurd rfl h0
  | n + 1, h, _ => by
    have hN : n + 1 < 16 := lt_of_lt_of_eq h N_0
    rw [Dat.before_of_pos _ 4 ⟨n + 1, h⟩ (Nat.succ_ne_zero n) rfl d, if_neg (fun e => by have := (flush0_4 _).mp e; simp at this; omega)]
    unfold Dat.left
    by_cases hn : n = 0
    · subst hn
      rw [show cfg0.idle 4 (cfg0.grid.coords ⟨0 + 1 - 1, _⟩) = false from (idle_4 _).trans (by simp)]
      show (dats m 0 c).after 4 _ = _
      rw [after_4]
    · rw [show cfg0.idle 4 (cfg0.grid.coords ⟨n + 1 - 1, _⟩) = true from (idle_4 _).trans (by simp; omega)]
      exact before_4 c d n (by omega) hn

/-- The same of the scales' buffer. -/
theorem before_5 (c : Dev nD) (d) : ∀ (n : ℕ) (h : n < cfg0.N), n ≠ 0 → (dats m 0 c).before 5 ⟨n, h⟩ d = scalesAt m c
  | 0, _, h0 => absurd rfl h0
  | n + 1, h, _ => by
    have hN : n + 1 < 16 := lt_of_lt_of_eq h N_0
    rw [Dat.before_of_pos _ 5 ⟨n + 1, h⟩ (Nat.succ_ne_zero n) rfl d, if_neg (fun e => by have := (flush0_5 _).mp e; simp at this; omega)]
    unfold Dat.left
    by_cases hn : n = 0
    · subst hn
      rw [show cfg0.idle 5 (cfg0.grid.coords ⟨0 + 1 - 1, _⟩) = false from (idle_5 _).trans (by simp)]
      show (dats m 0 c).after 5 _ = _
      rw [after_5]
    · rw [show cfg0.idle 5 (cfg0.grid.coords ⟨n + 1 - 1, _⟩) = true from (idle_5 _).trans (by simp; omega)]
      exact before_5 c d n (by omega) hn

/-- What the body must leave in a window's buffer: for windows 4 and 5 the codes and the scales, at every point. -/
theorem leaves_4 (c : Dev nD) (t : Fin cfg0.N) :
    owns (c : Thread nD τ) (st0_4 t) fullShare (codesAt m c) ⊢ (dats m 0 c).leavesExact 4 t := by
  unfold Dat.leavesExact
  by_cases h : t.val % 16 = 0
  · rw [show cfg0.idle 4 (cfg0.grid.coords t) = false from (idle_4 t).trans (by simp [h])]
    dsimp only
    rw [after_4]
  · rw [show cfg0.idle 4 (cfg0.grid.coords t) = true from (idle_4 t).trans (by simp [h])]
    cases hf : (cfg0.win 4).flush t
    · dsimp only
      iintro H
      iexists (codesAt m c)
      rw [before_4 m c _ t.val t.isLt (by omega)]
      iexact H
    · dsimp only
      rw [after_4]

theorem leaves_5 (c : Dev nD) (t : Fin cfg0.N) :
    owns (c : Thread nD τ) (st0_5 t) fullShare (scalesAt m c) ⊢ (dats m 0 c).leavesExact 5 t := by
  unfold Dat.leavesExact
  by_cases h : t.val % 16 = 0
  · rw [show cfg0.idle 5 (cfg0.grid.coords t) = false from (idle_5 t).trans (by simp [h])]
    dsimp only
    rw [after_5]
  · rw [show cfg0.idle 5 (cfg0.grid.coords t) = true from (idle_5 t).trans (by simp [h])]
    cases hf : (cfg0.win 5).flush t
    · dsimp only
      iintro H
      iexists (scalesAt m c)
      rw [before_5 m c _ t.val t.isLt (by omega)]
      iexact H
    · dsimp only
      rw [after_5]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (dats m 0 c).leavesExact 4 t
    ∗ (dats m 0 c).leavesExact 5 t)

set_option maxHeartbeats 1600000 in
/-- The body at any point takes the one to the other: at the first by `run_first`, at a later one by `run_later`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3]
  have hN : t.val < 16 := lt_of_lt_of_eq t.isLt (show cfg0.N = 16 from N_0)
  by_cases h0 : t.val % 16 = 0
  · have ht : t = t0 := Fin.ext (by show t.val = 0; omega)
    iintro ⟨HΦ, Ho, ⟨%d0, H0⟩, ⟨%d1, H1⟩, ⟨%d2, H2⟩, ⟨%d3, H3⟩, ⟨%d4, H4⟩, ⟨%d5, H5⟩⟩
    iapply ((run_first c (grid0.coords t) _ _ _ _ _ _ _ _ _ _ _ _ ((cond_iff t).mpr h0) (iblk m c 0 t) (iblk m c 1 t) (iblk m c 2 t)) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    rw [show codesOut (iblk m c 0 t) = codesAt m c from by rw [ht]; rfl, show scalesOut (iblk m c 0 t) = scalesAt m c from by rw [ht]; rfl]
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]
    · iapply (leaves_4 m c t); iexact H4
    iapply (leaves_5 m c t); iexact H5
  · have h4 : ∀ d, (dats m 0 c).before 4 t d = codesAt m c := fun d => before_4 m c d t.val t.isLt (by omega)
    have h5 : ∀ d, (dats m 0 c).before 5 t d = scalesAt m c := fun d => before_5 m c d t.val t.isLt (by omega)
    simp only [h4, h5]
    iintro ⟨HΦ, Ho, ⟨%d0, H0⟩, ⟨%d1, H1⟩, ⟨%d2, H2⟩, ⟨%d3, H3⟩, ⟨%d4, H4⟩, ⟨%d5, H5⟩⟩
    iapply ((run_later c (grid0.coords t) _ _ _ _ _ _ _ _ _ _ _ _ (fun h => h0 ((cond_iff t).mp h)) (iblk m c 0 t) (iblk m c 1 t) (iblk m c 2 t) (codesAt m c) (scalesAt m c)) Set.univ _)
    isplitl [H0]; · iexact H0
    isplitl [H1]; · iexact H1
    isplitl [H2]; · iexact H2
    isplitl [H3]; · iexists _; iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]
    · iapply (leaves_4 m c t); iexact H4
    iapply (leaves_5 m c t); iexact H5

/-- The body table's row at point `t` is the body. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- Every weakly fair execution terminates with every array of the pipeline at what the proof data gives and every semaphore
    counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged and every semaphore counter at zero: the frame claim at any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.Kernel.Body

end
-- ==== Proof.Outs.lean ====
/-
  What one run of the kernel's body leaves in its three result buffers, written from the payloads its stores carry.
-/
module

public import proofs.«01_k».proof.Proof.Gen.KernelIdeal.Frame
public import proofs.«01_k».proof.Proof.Gen.KernelIdeal.Skeleton
public import proofs.«01_k».proof.Proof.Gen.KernelIdeal.Points

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body loads and stores through

`rC` are the eight blocks of 128 columns, `rS` the eight columns of scales, `rW` the eight rows of weight scales, `rY` the whole
block of `y`. -/

abbrev rC_0_0 : Rect S512x1024 := Rect.unit (s := S512x1024) ![0, 0] S512x128.size inb_S512x1024_S512x128_0_0
abbrev rS_0_0 : Rect S512x8 := Rect.unit (s := S512x8) ![0, 0] S512x1.size inb_S512x8_S512x1_0_0
abbrev rC_0_128 : Rect S512x1024 := Rect.unit (s := S512x1024) ![0, 128] S512x128.size inb_S512x1024_S512x128_0_128
abbrev rS_0_1 : Rect S512x8 := Rect.unit (s := S512x8) ![0, 1] S512x1.size inb_S512x8_S512x1_0_1
abbrev rC_0_256 : Rect S512x1024 := Rect.unit (s := S512x1024) ![0, 256] S512x128.size inb_S512x1024_S512x128_0_256
abbrev rS_0_2 : Rect S512x8 := Rect.unit (s := S512x8) ![0, 2] S512x1.size inb_S512x8_S512x1_0_2
abbrev rC_0_384 : Rect S512x1024 := Rect.unit (s := S512x1024) ![0, 384] S512x128.size inb_S512x1024_S512x128_0_384
abbrev rS_0_3 : Rect S512x8 := Rect.unit (s := S512x8) ![0, 3] S512x1.size inb_S512x8_S512x1_0_3
abbrev rC_0_512 : Rect S512x1024 := Rect.unit (s := S512x1024) ![0, 512] S512x128.size inb_S512x1024_S512x128_0_512
abbrev rS_0_4 : Rect S512x8 := Rect.unit (s := S512x8) ![0, 4] S512x1.size inb_S512x8_S512x1_0_4
abbrev rC_0_640 : Rect S512x1024 := Rect.unit (s := S512x1024) ![0, 640] S512x128.size inb_S512x1024_S512x128_0_640
abbrev rS_0_5 : Rect S512x8 := Rect.unit (s := S512x8) ![0, 5] S512x1.size inb_S512x8_S512x1_0_5
abbrev rC_0_768 : Rect S512x1024 := Rect.unit (s := S512x1024) ![0, 768] S512x128.size inb_S512x1024_S512x128_0_768
abbrev rS_0_6 : Rect S512x8 := Rect.unit (s := S512x8) ![0, 6] S512x1.size inb_S512x8_S512x1_0_6
abbrev rC_0_896 : Rect S512x1024 := Rect.unit (s := S512x1024) ![0, 896] S512x128.size inb_S512x1024_S512x128_0_896
abbrev rS_0_7 : Rect S512x8 := Rect.unit (s := S512x8) ![0, 7] S512x1.size inb_S512x8_S512x1_0_7
abbrev rW_0_0 : Rect S8x512 := Rect.unit (s := S8x512) ![0, 0] S1x512.size inb_S8x512_S1x512_0_0
abbrev rW_1_0 : Rect S8x512 := Rect.unit (s := S8x512) ![1, 0] S1x512.size inb_S8x512_S1x512_1_0
abbrev rW_2_0 : Rect S8x512 := Rect.unit (s := S8x512) ![2, 0] S1x512.size inb_S8x512_S1x512_2_0
abbrev rW_3_0 : Rect S8x512 := Rect.unit (s := S8x512) ![3, 0] S1x512.size inb_S8x512_S1x512_3_0
abbrev rW_4_0 : Rect S8x512 := Rect.unit (s := S8x512) ![4, 0] S1x512.size inb_S8x512_S1x512_4_0
abbrev rW_5_0 : Rect S8x512 := Rect.unit (s := S8x512) ![5, 0] S1x512.size inb_S8x512_S1x512_5_0
abbrev rW_6_0 : Rect S8x512 := Rect.unit (s := S8x512) ![6, 0] S1x512.size inb_S8x512_S1x512_6_0
abbrev rW_7_0 : Rect S8x512 := Rect.unit (s := S8x512) ![7, 0] S1x512.size inb_S8x512_S1x512_7_0
abbrev rY_0_0 : Rect S512x512 := Rect.unit (s := S512x512) ![0, 0] S512x512.size inb_S512x512_S512x512_0_0

/-- The quantised activations as the first point leaves them: the eight column blocks it stores, last first, from the
    activations `x0`. -/
def codesOut (x0 : Vec F S512x1024 .bf16) : Vec F S512x1024 .fp8e4m3 :=
  View.canon
    [⟨rC_0_896, k0_pay49 (k0_pay44 (View.ld x0 rC_0_896)) (k0_pay48 (View.ld x0 rC_0_896))⟩,
     ⟨rC_0_768, (k0_pay43 (k0_pay38 (View.ld x0 rC_0_768)) (k0_pay39 (View.ld x0 rC_0_768)))⟩,
     ⟨rC_0_640, k0_pay37 (k0_pay31 (View.ld x0 rC_0_640)) (k0_pay32 (View.ld x0 rC_0_640)) ((iota .tc S512x256 32 [1] iota_S512x256_d1_w32)) k0_pay33⟩,
     ⟨rC_0_512, k0_pay30 (k0_pay25 (View.ld x0 rC_0_512)) (k0_pay26 (View.ld x0 rC_0_512))⟩,
     ⟨rC_0_384, k0_pay24 (k0_pay20 (View.ld x0 rC_0_384)) (k0_pay21 (View.ld x0 rC_0_384)) (k0_pay22 (View.ld x0 rC_0_384))⟩,
     ⟨rC_0_256, k0_pay19 (k0_pay14 (View.ld x0 rC_0_256)) (k0_pay15 (View.ld x0 rC_0_256)) (k0_pay16 (View.ld x0 rC_0_256)) 253#32⟩,
     ⟨rC_0_128, k0_pay13 (k0_pay8 (View.ld x0 rC_0_128)) (k0_pay11 (View.ld x0 rC_0_128))⟩,
     ⟨rC_0_0, k0_pay7 (k0_pay6 (View.ld x0 rC_0_0)) ((Scalar.ofBits .f32 0xC3E00000#32)) ((Scalar.ofBits .f32 0x43E00000#32))⟩]

/-- The activations' scales as the first point leaves them: the eight columns it stores, last first. -/
def scalesOut (x0 : Vec F S512x1024 .bf16) : Vec F S512x8 .f32 :=
  View.canon
    [⟨rS_0_7, k0_pay47 (View.ld x0 rC_0_896)⟩,
     ⟨rS_0_6, k0_pay42 (k0_pay39 (View.ld x0 rC_0_768))⟩,
     ⟨rS_0_5, k0_pay36 (k0_pay32 (View.ld x0 rC_0_640)) ((iota .tc S512x256 32 [1] iota_S512x256_d1_w32)) k0_pay33⟩,
     ⟨rS_0_4, k0_pay29 (F := F) (k0_pay26 (View.ld x0 rC_0_512))⟩,
     ⟨rS_0_3, k0_pay23 (F := F) (k0_pay21 (View.ld x0 rC_0_384)) (k0_pay22 (View.ld x0 rC_0_384)) 1#32⟩,
     ⟨rS_0_2, k0_pay18 (F := F) (k0_pay17 (View.ld x0 rC_0_256))⟩,
     ⟨rS_0_1, (k0_pay12 (View.ld x0 rC_0_128))⟩,
     ⟨rS_0_0, k0_pay5 (View.ld x0 rC_0_0)⟩]

/-- The block of `y` a point leaves, from the block of weights `x1`, the block of weight scales `x2`, the codes `x4` and the
    scales `x5`. -/
def yOut (x1 : Vec F S512x1024 .fp8e4m3) (x2 : Vec F S8x512 .f32) (x4 : Vec F S512x1024 .fp8e4m3) (x5 : Vec F S512x8 .f32) :
    Vec F S512x512 .bf16 :=
  View.canon [⟨rY_0_0, k0_pay1 (k0_pay54 (k0_pay52 (k0_pay50 (View.ld x4 rC_0_0) (View.ld x1 rC_0_0) (View.ld x5 rS_0_0) (View.ld x2 rW_0_0) (View.ld x4 rC_0_128) (View.ld x1 rC_0_128) (View.ld x5 rS_0_1) (View.ld x2 rW_1_0)) (k0_pay51 (View.ld x4 rC_0_256) (View.ld x1 rC_0_256)) (View.ld x5 rS_0_2) (View.ld x2 rW_2_0) (View.ld x4 rC_0_384) (View.ld x1 rC_0_384) (View.ld x5 rS_0_3) (View.ld x2 rW_3_0) (View.ld x4 rC_0_512) (View.ld x1 rC_0_512) (View.ld x5 rS_0_4) (View.ld x2 rW_4_0)) (k0_pay53 (View.ld x4 rC_0_640)) (View.ld x1 rC_0_640) (View.ld x5 rS_0_5) (View.ld x2 rW_5_0) (View.ld x4 rC_0_768) (View.ld x1 rC_0_768) (View.ld x5 rS_0_6) (View.ld x2 rW_6_0)) (k0_pay55 (View.ld x4 rC_0_896) (View.ld x1 rC_0_896) (View.ld x5 rS_0_7)) (k0_pay56 (View.ld x2 rW_7_0))⟩]

/-- The eight column blocks cover the buffer of codes. -/
theorem cover_codes (p0 p1 p2 p3 p4 p5 p6 p7 : Vec F S512x128 .fp8e4m3) (y : S512x1024.Idx) :
    ∃ pc ∈ ([⟨rC_0_896, p0⟩, ⟨rC_0_768, p1⟩, ⟨rC_0_640, p2⟩, ⟨rC_0_512, p3⟩, ⟨rC_0_384, p4⟩, ⟨rC_0_256, p5⟩, ⟨rC_0_128, p6⟩, ⟨rC_0_0, p7⟩] : List (View.Piece (Elt F) S512x1024 .fp8e4m3)), y ∈ pc.1.set :=
  View.cover_of_tiled [⟨rC_0_896, p0⟩, ⟨rC_0_768, p1⟩, ⟨rC_0_640, p2⟩, ⟨rC_0_512, p3⟩, ⟨rC_0_384, p4⟩, ⟨rC_0_256, p5⟩, ⟨rC_0_128, p6⟩, ⟨rC_0_0, p7⟩] S512x128.size (by rfl) y

/-- The eight columns cover the buffer of scales. -/
theorem cover_scales (p0 p1 p2 p3 p4 p5 p6 p7 : Vec F S512x1 .f32) (y : S512x8.Idx) :
    ∃ pc ∈ ([⟨rS_0_7, p0⟩, ⟨rS_0_6, p1⟩, ⟨rS_0_5, p2⟩, ⟨rS_0_4, p3⟩, ⟨rS_0_3, p4⟩, ⟨rS_0_2, p5⟩, ⟨rS_0_1, p6⟩, ⟨rS_0_0, p7⟩] : List (View.Piece (Elt F) S512x8 .f32)), y ∈ pc.1.set :=
  View.cover_of_tiled [⟨rS_0_7, p0⟩, ⟨rS_0_6, p1⟩, ⟨rS_0_5, p2⟩, ⟨rS_0_4, p3⟩, ⟨rS_0_3, p4⟩, ⟨rS_0_2, p5⟩, ⟨rS_0_1, p6⟩, ⟨rS_0_0, p7⟩] S512x1.size (by rfl) y

/-- The one store of `y` covers its block. -/
theorem cover_y (p : Vec F S512x512 .bf16) (y : S512x512.Idx) :
    ∃ pc ∈ ([⟨rY_0_0, p⟩] : List (View.Piece (Elt F) S512x512 .bf16)), y ∈ pc.1.set :=
  View.cover_of_tiled [⟨rY_0_0, p⟩] S512x512.size (by rfl) y

end Cert.KernelIdeal.Body

end
-- ==== Proof.RunLater.lean ====
/-
  The body's triple at a point after the first: it reads the codes and the scales and writes its block of y.
-/
module

public import proofs.«01_k».proof.Proof.Gen.KernelIdeal.Frame
public import proofs.«01_k».proof.Proof.Gen.KernelIdeal.Skeleton
public import proofs.«01_k».proof.Proof.Gen.KernelIdeal.Points
public import proofs.«01_k».proof.Proof.Outs

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- No point but the first holds the body's branch condition. -/
abbrev cond (i : grid0.Coords) : Prop := k0_cond1 i = 1#1

set_option maxHeartbeats 1000000 in
/-- At a point after the first the body, on whole buffers holding the activations, the weights' and the weight scales' blocks,
    anything, the codes and the scales, leaves its block of `y` at `yOut` and everything else as it was. -/
theorem run_later (c : Dev nD) (i : grid0.Coords) (arg1 : Memref sig .tc .vmem S512x1024 .bf16) (harg1 : arg1.IsWhole) (arg2 : Memref sig .tc .vmem S512x1024 .fp8e4m3) (harg2 : arg2.IsWhole) (arg3 : Memref sig .tc .vmem S8x512 .f32) (harg3 : arg3.IsWhole) (arg4 : Memref sig .tc .vmem S512x512 .bf16) (harg4 : arg4.IsWhole) (arg5 : Memref sig .tc .vmem S512x1024 .fp8e4m3) (harg5 : arg5.IsWhole) (arg6 : Memref sig .tc .vmem S512x8 .f32) (harg6 : arg6.IsWhole) (hc0 : ¬ cond i)
    (x0 : Vec F S512x1024 .bf16) (x1 : Vec F S512x1024 .fp8e4m3) (x2 : Vec F S8x512 .f32) (x4 : Vec F S512x1024 .fp8e4m3) (x5 : Vec F S512x8 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare x4 ∗ owns (c : Thread nD τ) arg6 fullShare x5
            ∗ (iprop(owns (c : Thread nD τ) arg1 fullShare x0 ∗ owns (c : Thread nD τ) arg2 fullShare x1 ∗ owns (c : Thread nD τ) arg3 fullShare x2 ∗ owns (c : Thread nD τ) arg4 fullShare (yOut x1 x2 x4 x5) ∗ owns (c : Thread nD τ) arg5 fullShare x4 ∗ owns (c : Thread nD τ) arg6 fullShare x5) -∗ K ⟨⟩))
          ⊢ wp frame (wpE (defs₀ (F := F)) Variants.none c none) E (cc0__body i arg1 harg1 arg2 harg2 arg3 harg3 arg4 harg4 arg5 harg5 arg6 harg6) K := by
    intro E K
    simp only [cc0__body_eq_skeleton]; unfold cc0__body_skel
    simp only [k0_part10_eq_skeleton, k0_part11_eq_skeleton, k0_part12_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, Hk⟩
    subst hf0 hf1 hf2 hf4 hf5
    sl_exec (disch := first | sl_exact hc0)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists _; isplitr
      swap; · iexact H3
      ipureintro
      exact View.read_writes_eq_canon _ _ _ (cover_y _)
    isplitl [H4]
    · iexists f4; isplitr; · ipureintro; rfl
      iexact H4
    iexists f5; isplitr; · ipureintro; rfl
    iexact H5

end Cert.KernelIdeal.Body

end
-- ==== Proof.RunFirst.lean ====
/-
  The body's triple at the first point: it quantises the activations, then writes its block of y from what it has just stored.
-/
module

public import proofs.«01_k».proof.Proof.Gen.KernelIdeal.Frame
public import proofs.«01_k».proof.Proof.Gen.KernelIdeal.Skeleton
public import proofs.«01_k».proof.Proof.Gen.KernelIdeal.Points
public import proofs.«01_k».proof.Proof.RunLater

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At the first point the body, on whole buffers holding the activations, the weights' and the weight scales' blocks and
    anything in its results', leaves the codes at `codesOut`, the scales at `scalesOut` and its block of `y` at `yOut` of them. -/
theorem run_first (c : Dev nD) (i : grid0.Coords) (arg1 : Memref sig .tc .vmem S512x1024 .bf16) (harg1 : arg1.IsWhole) (arg2 : Memref sig .tc .vmem S512x1024 .fp8e4m3) (harg2 : arg2.IsWhole) (arg3 : Memref sig .tc .vmem S8x512 .f32) (harg3 : arg3.IsWhole) (arg4 : Memref sig .tc .vmem S512x512 .bf16) (harg4 : arg4.IsWhole) (arg5 : Memref sig .tc .vmem S512x1024 .fp8e4m3) (harg5 : arg5.IsWhole) (arg6 : Memref sig .tc .vmem S512x8 .f32) (harg6 : arg6.IsWhole) (hc0 : cond i)
    (x0 : Vec F S512x1024 .bf16) (x1 : Vec F S512x1024 .fp8e4m3) (x2 : Vec F S8x512 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare (yOut x1 x2 (codesOut x0) (scalesOut x0)) ∗ owns (c : Thread nD τ) arg5 fullShare (codesOut x0) ∗ owns (c : Thread nD τ) arg6 fullShare (scalesOut x0)) -∗ K ⟨⟩))
          ⊢ wp frame (wpE (defs₀ (F := F)) Variants.none c none) E (cc0__body i arg1 harg1 arg2 harg2 arg3 harg3 arg4 harg4 arg5 harg5 arg6 harg6) K := by
    intro E K
    simp only [cc0__body_eq_skeleton]; unfold cc0__body_skel
    simp only [k0_part10_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part11_eq_skeleton, k0_part12_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
    subst hf0 hf1 hf2
    sl_exec (disch := first | sl_exact hc0)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists _; isplitr
      swap; · iexact H3
      ipureintro
      refine (View.read_writes_eq_canon _ _ _ (cover_y _)).trans ?_
      sl_unfold_words
      unfold yOut
      simp only [View.readCov_eq_canon_ld _ _ _ (cover_codes _ _ _ _ _ _ _ _), View.readCov_eq_canon_ld _ _ _ (cover_scales _ _ _ _ _ _ _ _)]
      rfl
    isplitl [H4]
    · iexists _; isplitr
      swap; · iexact H4
      ipureintro
      exact View.read_writes_eq_canon _ _ _ (cover_codes _ _ _ _ _ _ _ _)
    iexists _; isplitr
    swap; · iexact H5
    ipureintro
    exact View.read_writes_eq_canon _ _ _ (cover_scales _ _ _ _ _ _ _ _)

end Cert.KernelIdeal.Body

end
-- ==== Proof.Run.lean ====
/-
  The kernel's run: what its three result arrays hold once every grid point has run.
-/
module

public import proofs.«01_k».proof.Proof.Gen.KernelIdeal.Frame
public import proofs.«01_k».proof.Proof.Gen.KernelIdeal.Skeleton
public import proofs.«01_k».proof.Proof.Gen.KernelIdeal.Points
public import proofs.«01_k».proof.Proof.RunFirst
public import Idealize.ShloMosaic.Lib.Claim

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid's first point, and where the windows are idle -/

/-- The branch condition holds at the first point only. -/
theorem cond_iff : ∀ t : Fin cfg0.N, cond (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond, k0_cond1, e0]
    word_cmp
   : ∀ t : Fin grid0.N, cond (grid0.coords t) ↔ t.val % 16 = 0)

/-- The grid's first point. -/
abbrev t0 : Fin cfg0.N := ⟨0, lt_of_lt_of_eq (by decide) (show 16 = cfg0.N from N_0.symm)⟩

/-- The codes and the scales the first point leaves, from the activations its window holds. -/
def codesAt (c : Dev nD) : Vec F S512x1024 .fp8e4m3 := codesOut (iblk m c 0 t0)
def scalesAt (c : Dev nD) : Vec F S512x8 .f32 := scalesOut (iblk m c 0 t0)

/-- The pipeline's proof data: the arrays as the region finds them; after the body at point `t` each input's buffer at its block,
    the block of `y` at what the point's weights, the codes and the scales give, and the codes and the scales as the first point
    left them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => yOut (iblk m c 1 t) (iblk m c 2 t) (codesAt m c) (scalesAt m c)
    | ⟨4, _⟩ => codesAt m c
    | ⟨5, _⟩ => scalesAt m c
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = yOut (iblk m c 1 t) (iblk m c 2 t) (codesAt m c) (scalesAt m c) := by dsimp only [dats]
theorem after_4 (c : Dev nD) (t : Fin cfg0.N) : (dats m 0 c).after 4 t = codesAt m c := by dsimp only [dats]
theorem after_5 (c : Dev nD) (t : Fin cfg0.N) : (dats m 0 c).after 5 t = scalesAt m c := by dsimp only [dats]

/-- Each input's current buffer holds its block at every point. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- Window 4 and window 5 are live at the first point and idle after it. -/
theorem idle_4 (t : Fin cfg0.N) : cfg0.idle 4 (grid0.coords t) = !decide (t.val % 16 = 0) := by
  show (!(k0_cond1 (grid0.coords t) == 1#1)) = _
  by_cases h : t.val % 16 = 0
  · rw [(cond_iff t).mpr h]; simp [h]
  · rw [beq_eq_false_iff_ne.mpr (fun e => h ((cond_iff t).mp e))]; simp [h]
theorem idle_5 (t : Fin cfg0.N) : cfg0.idle 5 (grid0.coords t) = !decide (t.val % 16 = 0) := idle_4 t

/-- After the first point the codes' buffer holds the codes the first point left, whatever it held before the run. -/
theorem before_4 (c : Dev nD) (d) : ∀ (n : ℕ) (h : n < cfg0.N), n ≠ 0 → (dats m 0 c).before 4 ⟨n, h⟩ d = codesAt m c
  | 0, _, h0 => absurd rfl h0
  | n + 1, h, _ => by
    have hN : n + 1 < 16 := lt_of_lt_of_eq h N_0
    rw [Dat.before_of_pos _ 4 ⟨n + 1, h⟩ (Nat.succ_ne_zero n) rfl d, if_neg (fun e => by have := (flush0_4 _).mp e; simp at this; omega)]
    unfold Dat.left
    by_cases hn : n = 0
    · subst hn
      rw [show cfg0.idle 4 (cfg0.grid.coords ⟨0 + 1 - 1, _⟩) = false from (idle_4 _).trans (by simp)]
      show (dats m 0 c).after 4 _ = _
      rw [after_4]
    · rw [show cfg0.idle 4 (cfg0.grid.coords ⟨n + 1 - 1, _⟩) = true from (idle_4 _).trans (by simp; omega)]
      exact before_4 c d n (by omega) hn

/-- The same of the scales' buffer. -/
theorem before_5 (c : Dev nD) (d) : ∀ (n : ℕ) (h : n < cfg0.N), n ≠ 0 → (dats m 0 c).before 5 ⟨n, h⟩ d = scalesAt m c
  | 0, _, h0 => absurd rfl h0
  | n + 1, h, _ => by
    have hN : n + 1 < 16 := lt_of_lt_of_eq h N_0
    rw [Dat.before_of_pos _ 5 ⟨n + 1, h⟩ (Nat.succ_ne_zero n) rfl d, if_neg (fun e => by have := (flush0_5 _).mp e; simp at this; omega)]
    unfold Dat.left
    by_cases hn : n = 0
    · subst hn
      rw [show cfg0.idle 5 (cfg0.grid.coords ⟨0 + 1 - 1, _⟩) = false from (idle_5 _).trans (by simp)]
      show (dats m 0 c).after 5 _ = _
      rw [after_5]
    · rw [show cfg0.idle 5 (cfg0.grid.coords ⟨n + 1 - 1, _⟩) = true from (idle_5 _).trans (by simp; omega)]
      exact before_5 c d n (by omega) hn

/-- What the body must leave in a window's buffer: for windows 4 and 5 the codes and the scales, at every point. -/
theorem leaves_4 (c : Dev nD) (t : Fin cfg0.N) :
    owns (c : Thread nD τ) (st0_4 t) fullShare (codesAt m c) ⊢ (dats m 0 c).leavesExact 4 t := by
  unfold Dat.leavesExact
  by_cases h : t.val % 16 = 0
  · rw [show cfg0.idle 4 (cfg0.grid.coords t) = false from (idle_4 t).trans (by simp [h])]
    dsimp only
    rw [after_4]
  · rw [show cfg0.idle 4 (cfg0.grid.coords t) = true from (idle_4 t).trans (by simp [h])]
    cases hf : (cfg0.win 4).flush t
    · dsimp only
      iintro H
      iexists (codesAt m c)
      rw [before_4 m c _ t.val t.isLt (by omega)]
      iexact H
    · dsimp only
      rw [after_4]

theorem leaves_5 (c : Dev nD) (t : Fin cfg0.N) :
    owns (c : Thread nD τ) (st0_5 t) fullShare (scalesAt m c) ⊢ (dats m 0 c).leavesExact 5 t := by
  unfold Dat.leavesExact
  by_cases h : t.val % 16 = 0
  · rw [show cfg0.idle 5 (cfg0.grid.coords t) = false from (idle_5 t).trans (by simp [h])]
    dsimp only
    rw [after_5]
  · rw [show cfg0.idle 5 (cfg0.grid.coords t) = true from (idle_5 t).trans (by simp [h])]
    cases hf : (cfg0.win 5).flush t
    · dsimp only
      iintro H
      iexists (scalesAt m c)
      rw [before_5 m c _ t.val t.isLt (by omega)]
      iexact H
    · dsimp only
      rw [after_5]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (dats m 0 c).leavesExact 4 t
    ∗ (dats m 0 c).leavesExact 5 t)

set_option maxHeartbeats 1600000 in
/-- The body at any point takes the one to the other: at the first by `run_first`, at a later one by `run_later`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3]
  have hN : t.val < 16 := lt_of_lt_of_eq t.isLt (show cfg0.N = 16 from N_0)
  by_cases h0 : t.val % 16 = 0
  · have ht : t = t0 := Fin.ext (by show t.val = 0; omega)
    iintro ⟨HΦ, Ho, ⟨%d0, H0⟩, ⟨%d1, H1⟩, ⟨%d2, H2⟩, ⟨%d3, H3⟩, ⟨%d4, H4⟩, ⟨%d5, H5⟩⟩
    iapply ((run_first c (grid0.coords t) _ _ _ _ _ _ _ _ _ _ _ _ ((cond_iff t).mpr h0) (iblk m c 0 t) (iblk m c 1 t) (iblk m c 2 t)) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    rw [show codesOut (iblk m c 0 t) = codesAt m c from by rw [ht]; rfl, show scalesOut (iblk m c 0 t) = scalesAt m c from by rw [ht]; rfl]
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]
    · iapply (leaves_4 m c t); iexact H4
    iapply (leaves_5 m c t); iexact H5
  · have h4 : ∀ d, (dats m 0 c).before 4 t d = codesAt m c := fun d => before_4 m c d t.val t.isLt (by omega)
    have h5 : ∀ d, (dats m 0 c).before 5 t d = scalesAt m c := fun d => before_5 m c d t.val t.isLt (by omega)
    simp only [h4, h5]
    iintro ⟨HΦ, Ho, ⟨%d0, H0⟩, ⟨%d1, H1⟩, ⟨%d2, H2⟩, ⟨%d3, H3⟩, ⟨%d4, H4⟩, ⟨%d5, H5⟩⟩
    iapply ((run_later c (grid0.coords t) _ _ _ _ _ _ _ _ _ _ _ _ (fun h => h0 ((cond_iff t).mp h)) (iblk m c 0 t) (iblk m c 1 t) (iblk m c 2 t) (codesAt m c) (scalesAt m c)) Set.univ _)
    isplitl [H0]; · iexact H0
    isplitl [H1]; · iexact H1
    isplitl [H2]; · iexact H2
    isplitl [H3]; · iexists _; iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]
    · iapply (leaves_4 m c t); iexact H4
    iapply (leaves_5 m c t); iexact H5

/-- The body table's row at point `t` is the body. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- Every weakly fair execution terminates with every array of the pipeline at what the proof data gives and every semaphore
    counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged and every semaphore counter at zero: the frame claim at any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.KernelIdeal.Body

end
-- ==== Proof.Exponent.lean ====
/-
  The power-of-two scale of a group, on the extended reals.

  The kernel finds the exponent field of `q` by counting: the greatest `e` of `0 … 255` whose
  power of two `e <<< 23` (as an f32 pattern) is at most `q`; its scale is the pattern
  `(e + 1) <<< 23` and its inverse scale `(253 - e) <<< 23`, both replaced by `1.0` at the ends
  of the range. The reference takes `2 ^ (⌊log₂ q⌋ + 1)` and `2 ^ -(⌊log₂ q⌋ + 1)`. Here the two
  are shown equal for `q = 0`, `q = +∞` and `2⁻¹²⁶ ≤ q < 2¹²⁶`.
-/
module

public import Idealize.ShloMosaic.Lib.Pointwise
public import Mathlib.Analysis.SpecialFunctions.Log.Basic

@[expose] public section

set_option maxRecDepth 16384

noncomputable section

open Idealize.ShloMosaic

namespace Cert.Exponent

/-- The f32 pattern of sign 0, exponent field `e`, fraction 0. -/
abbrev pat (e : ℕ) : EReal := Ideal.ofBits FTy.f32 (IntOp.shli ArithUnit.vector (BitVec.ofNat 32 e) 23#32)

/-- The pattern of exponent field `e`, taken apart: its exponent is `e`, its fraction 0, its sign clear. -/
theorem pat_fields : ∀ e : Fin 256,
    ((IntOp.shli ArithUnit.vector (BitVec.ofNat 32 e.val) 23#32).extractLsb' 23 8).toNat = e.val
    ∧ ((IntOp.shli ArithUnit.vector (BitVec.ofNat 32 e.val) 23#32).extractLsb' 0 23).toNat = 0
    ∧ ((IntOp.shli ArithUnit.vector (BitVec.ofNat 32 e.val) 23#32).extractLsb' 31 1 == 1#1) = false := by
  decide +kernel

/-- Field 0 denotes 0. -/
theorem pat_zero : pat 0 = 0 := by
  obtain ⟨h1, h2, h3⟩ := pat_fields 0
  simp only [Fin.val_zero] at h1 h2 h3
  simp only [pat, Ideal.ofBits, Ideal.ieee, h1, h2, h3]
  norm_num

/-- Field 255 denotes `+∞`. -/
theorem pat_top : pat 255 = ⊤ := by
  obtain ⟨h1, h2, h3⟩ := pat_fields ⟨255, by norm_num⟩
  simp only at h1 h2 h3
  simp only [pat, Ideal.ofBits, Ideal.ieee, h1, h2, h3]
  norm_num

/-- A field strictly between denotes `2 ^ (e - 127)`. -/
theorem pat_mid (e : ℕ) (h0 : 1 ≤ e) (h255 : e ≤ 254) : pat e = (((2 : ℝ) ^ ((e : ℤ) - 127) : ℝ) : EReal) := by
  obtain ⟨h1, h2, h3⟩ := pat_fields ⟨e, by omega⟩
  simp only at h1 h2 h3
  simp only [pat, Ideal.ofBits, Ideal.ieee, h1, h2, h3]
  rw [if_neg (by norm_num; omega), if_neg (by omega)]
  refine congrArg (fun r : ℝ => (r : EReal)) ?_
  rw [show ((e : ℤ) - 127 : ℤ) = 23 + ((e : ℤ) - (2 ^ (8 - 1) - 1) - (23 : ℕ)) by push_cast; ring,
    zpow_add₀ (by norm_num : (2 : ℝ) ≠ 0)]
  norm_num

/-- A greater field denotes more. -/
theorem pat_pos (e : ℕ) (h0 : 1 ≤ e) (h255 : e ≤ 255) : 0 < pat e := by
  rcases Nat.lt_or_ge e 255 with h | h
  · rw [pat_mid e h0 (by omega)]
    exact_mod_cast zpow_pos (by norm_num : (0 : ℝ) < 2) _
  · rw [show e = 255 by omega, pat_top]
    exact EReal.zero_lt_top

/-- The exponent field the kernel counts: the greatest `e` whose pattern is at most `q`. -/
def field (q : EReal) : BitVec 32 :=
  Finset.fold IntOp.maxsi (2147483648#32) (fun x : Fin 256 => if pat ↑x ≤ q then BitVec.ofNat 32 ↑x else 0#32) Finset.univ

/-- The signed maximum of two words, as integers. -/
theorem toInt_maxsi (a b : BitVec 32) : (IntOp.maxsi a b).toInt = max a.toInt b.toInt := by
  unfold IntOp.maxsi
  split <;> rename_i h <;> simp only [BitVec.slt_iff_toInt_lt, BitVec.sle_iff_toInt_le] at h <;> omega

/-- A word below 256, read signed, is itself. -/
theorem toInt_small (e : ℕ) (h : e < 256) : (BitVec.ofNat 32 e).toInt = (e : ℤ) := by
  rw [BitVec.toInt_ofNat']
  norm_num [Int.bmod_def]
  omega

/-- If the pattern of `n` is at most `q` and those of greater fields are not, the count is `n`. -/
theorem field_eq (q : EReal) (n : ℕ) (hn : n < 256) (hle : pat n ≤ q)
    (hlt : ∀ e, n < e → e < 256 → q < pat e) : field q = BitVec.ofNat 32 n := by
  apply BitVec.toInt_inj.mp
  have hf : (field q).toInt = Finset.fold max (-2147483648 : ℤ)
      (fun x : Fin 256 => (if pat ↑x ≤ q then BitVec.ofNat 32 ↑x else 0#32).toInt) Finset.univ := by
    unfold field
    exact (Finset.fold_hom (m := BitVec.toInt) toInt_maxsi).symm
  rw [hf, toInt_small n hn]
  apply le_antisymm
  · rw [Finset.fold_max_le]
    refine ⟨by omega, fun e _ => ?_⟩
    split
    · rename_i h
      rw [toInt_small e.val e.isLt]
      by_contra hc
      exact absurd (hlt e.val (by omega) e.isLt) (not_lt.mpr h)
    · simp
  · rw [Finset.le_fold_max]
    refine Or.inr ⟨⟨n, hn⟩, Finset.mem_univ _, ?_⟩
    rw [if_pos hle, toInt_small n hn]

/-- The kernel's scale: the power of two one above the field, or 1 at the ends. -/
def kScale (q : EReal) : EReal :=
  Ideal.ofBits FTy.f32 (Scalar.select
    (IntOp.andi (IntOp.cmpi CmpIPredicate.sgt (field q) 0#32) (IntOp.cmpi CmpIPredicate.slt (field q) 255#32))
    (IntOp.shli ArithUnit.vector (IntOp.addi (field q) 1#32) 23#32) 1065353216#32)

/-- The kernel's inverse scale. -/
def kInv (q : EReal) : EReal :=
  Ideal.ofBits FTy.f32 (Scalar.select
    (IntOp.andi (IntOp.cmpi CmpIPredicate.sgt (field q) 0#32) (IntOp.cmpi CmpIPredicate.slt (field q) 255#32))
    (IntOp.shli ArithUnit.vector (IntOp.subi 253#32 (field q)) 23#32) 1065353216#32)

/-- The words the two scales are read from, by the field: 1.0 at fields 0 and 255, else the shifted fields. -/
theorem words : ∀ e : Fin 256,
    (Scalar.select
      (IntOp.andi (IntOp.cmpi CmpIPredicate.sgt (BitVec.ofNat 32 e.val) 0#32) (IntOp.cmpi CmpIPredicate.slt (BitVec.ofNat 32 e.val) 255#32))
      (IntOp.shli ArithUnit.vector (IntOp.addi (BitVec.ofNat 32 e.val) 1#32) 23#32) 1065353216#32
      = IntOp.shli ArithUnit.vector (BitVec.ofNat 32 (if e.val = 0 ∨ e.val = 255 then 127 else e.val + 1)) 23#32)
    ∧ (e.val ≤ 253 ∨ e.val = 255 → Scalar.select
      (IntOp.andi (IntOp.cmpi CmpIPredicate.sgt (BitVec.ofNat 32 e.val) 0#32) (IntOp.cmpi CmpIPredicate.slt (BitVec.ofNat 32 e.val) 255#32))
      (IntOp.shli ArithUnit.vector (IntOp.subi 253#32 (BitVec.ofNat 32 e.val)) 23#32) 1065353216#32
      = IntOp.shli ArithUnit.vector (BitVec.ofNat 32 (if e.val = 0 ∨ e.val = 255 then 127 else 253 - e.val)) 23#32) := by
  decide +kernel

/-- The reference's exponent: 0 at the ends, else `⌊log q / log 2⌋ + 1`. -/
def rExp (q : EReal) : EReal :=
  if q = 0 ∨ q = ⊤ then 0 else Ideal.liftRound Int.floor (Ideal.div (Ideal.log q) (Ideal.log 2)) + 1

/-- What the precondition says of `q`. -/
def InRange (q : EReal) : Prop :=
  q = 0 ∨ q = ⊤ ∨ ((((2 : ℝ) ^ (-126 : ℤ) : ℝ) : EReal) ≤ q ∧ q < (((2 : ℝ) ^ (126 : ℤ) : ℝ) : EReal))

/-- The floor of the base-2 logarithm of a positive real. -/
def floorLog (r : ℝ) : ℤ := ⌊Real.log r / Real.log 2⌋

/-- It is the exponent of the binade the real lies in. -/
theorem floorLog_spec (r : ℝ) (hr : 0 < r) : (2 : ℝ) ^ floorLog r ≤ r ∧ r < (2 : ℝ) ^ (floorLog r + 1) := by
  have hl : 0 < Real.log 2 := Real.log_pos (by norm_num)
  have h2 : ∀ z : ℤ, 0 < (2 : ℝ) ^ z := fun z => zpow_pos (by norm_num) z
  constructor
  · rw [← Real.log_le_log_iff (h2 _) hr, Real.log_zpow, ← le_div_iff₀ hl]
    exact Int.floor_le _
  · rw [← Real.log_lt_log_iff hr (h2 _), Real.log_zpow, ← div_lt_iff₀ hl]
    push_cast
    exact Int.lt_floor_add_one _

/-- The reference's exponent of a positive real is its base-2 logarithm's floor plus one. -/
theorem rExp_real (r : ℝ) (hr : 0 < r) : rExp (r : EReal) = (((floorLog r + 1 : ℤ) : ℝ) : EReal) := by
  have hl : Real.log 2 ≠ 0 := (Real.log_pos (by norm_num)).ne'
  have h2 : Ideal.log 2 = ((Real.log 2 : ℝ) : EReal) := by
    show (if (2 : ℝ) ≤ 0 then (⊥ : EReal) else (Real.log 2 : EReal)) = _
    exact if_neg (by norm_num)
  have h1 : Ideal.log (r : EReal) = ((Real.log r : ℝ) : EReal) := by
    show (if r ≤ 0 then (⊥ : EReal) else (Real.log r : EReal)) = _
    exact if_neg (not_le.mpr hr)
  have hd : Ideal.div ((Real.log r : ℝ) : EReal) ((Real.log 2 : ℝ) : EReal) = ((Real.log r / Real.log 2 : ℝ) : EReal) := by
    unfold Ideal.div
    rw [if_neg (by exact_mod_cast hl), ← EReal.coe_inv, ← EReal.coe_mul]
    rfl
  unfold rExp
  rw [if_neg (by rintro (h | h)
                 · exact hr.ne' (by exact_mod_cast h)
                 · exact EReal.coe_ne_top r h), h1, h2, hd]
  show ((⌊Real.log r / Real.log 2⌋ : ℝ) : EReal) + 1 = _
  push_cast
  rfl

/-- `2 ^ z` for an integer `z`, as the exponential of the extended reals. -/
theorem exp2_int (z : ℤ) : Ideal.exp2 (((z : ℤ) : ℝ) : EReal) = (((2 : ℝ) ^ z : ℝ) : EReal) := by
  show ((Real.rpow 2 (z : ℝ) : ℝ) : EReal) = _
  congr 1
  exact Real.rpow_intCast 2 z

theorem exp2_zero : Ideal.exp2 0 = 1 := by
  have := exp2_int 0
  simpa using this

/-- The two scales, and the two inverse scales, agree on every `q` in range. -/
theorem scales_eq (q : EReal) (h : InRange q) : kScale q = Ideal.exp2 (rExp q) ∧ kInv q = Ideal.exp2 (0 - rExp q) := by
  have one : pat 127 = 1 := by rw [pat_mid 127 (by norm_num) (by norm_num)]; norm_num
  rcases h with h | h | ⟨hlo, hhi⟩
  · have hf : field q = BitVec.ofNat 32 0 :=
      field_eq q 0 (by norm_num) (by rw [pat_zero, h]) (fun e h0 h1 => by rw [h]; exact pat_pos e h0 (by omega))
    have hr : rExp q = 0 := if_pos (Or.inl h)
    obtain ⟨w1, w2⟩ := words ⟨0, by norm_num⟩
    have w2 := w2 (Or.inl (by norm_num))
    simp only [true_or, if_true] at w1 w2
    unfold kScale kInv
    rw [hf, w1, w2, hr, sub_zero, exp2_zero]
    exact ⟨one, one⟩
  · have hf : field q = BitVec.ofNat 32 255 :=
      field_eq q 255 (by norm_num) (by rw [pat_top, h]) (fun e h0 h1 => by omega)
    have hr : rExp q = 0 := if_pos (Or.inr h)
    obtain ⟨w1, w2⟩ := words ⟨255, by norm_num⟩
    have w2 := w2 (Or.inr rfl)
    simp only [or_true, if_true] at w1 w2
    unfold kScale kInv
    rw [hf, w1, w2, hr, sub_zero, exp2_zero]
    exact ⟨one, one⟩
  · have hlo0 : (0 : EReal) < (((2 : ℝ) ^ (-126 : ℤ) : ℝ) : EReal) := by
      exact_mod_cast zpow_pos (by norm_num : (0 : ℝ) < 2) _
    obtain ⟨r, rfl⟩ : ∃ r : ℝ, (r : EReal) = q :=
      ⟨q.toReal, EReal.coe_toReal (ne_top_of_lt hhi) (ne_bot_of_gt (lt_of_lt_of_le hlo0 hlo))⟩
    have hr0 : 0 < r := by exact_mod_cast lt_of_lt_of_le hlo0 hlo
    have hlo' : (2 : ℝ) ^ (-126 : ℤ) ≤ r := by exact_mod_cast hlo
    have hhi' : r < (2 : ℝ) ^ (126 : ℤ) := by exact_mod_cast hhi
    obtain ⟨hk1, hk2⟩ := floorLog_spec r hr0
    have hkr := rExp_real r hr0
    generalize floorLog r = k at hk1 hk2 hkr
    have hkhi : k < 126 := by
      by_contra hc
      exact absurd (lt_of_le_of_lt hk1 hhi') (not_lt.mpr (zpow_le_zpow_right₀ (by norm_num) (by omega)))
    have hklo : -126 ≤ k := by
      by_contra hc
      exact absurd (lt_of_le_of_lt hlo' hk2) (not_lt.mpr (zpow_le_zpow_right₀ (by norm_num) (by omega)))
    obtain ⟨n, hn⟩ : ∃ n : ℕ, (n : ℤ) = k + 127 := ⟨(k + 127).toNat, by omega⟩
    have hn1 : 1 ≤ n := by omega
    have hn2 : n ≤ 252 := by omega
    have hf : field (r : EReal) = BitVec.ofNat 32 n := by
      refine field_eq _ n (by omega) ?_ (fun e h0 h1 => ?_)
      · rw [pat_mid n hn1 (by omega), show (n : ℤ) - 127 = k by omega]
        exact_mod_cast hk1
      · rcases Nat.lt_or_ge e 255 with h | h
        · rw [pat_mid e (by omega) (by omega)]
          have : r < (2 : ℝ) ^ ((e : ℤ) - 127) :=
            lt_of_lt_of_le hk2 (zpow_le_zpow_right₀ (by norm_num) (by omega))
          exact_mod_cast this
        · rw [show e = 255 by omega, pat_top]
          exact EReal.coe_lt_top r
    obtain ⟨w1, w2⟩ := words ⟨n, by omega⟩
    have w2 := w2 (Or.inl (by show n ≤ 253; omega))
    simp only [show ¬ (n = 0 ∨ n = 255) by omega, if_false] at w1 w2
    unfold kScale kInv
    rw [hf, w1, w2, hkr]
    constructor
    · rw [exp2_int]
      refine (pat_mid (n + 1) (by omega) (by omega)).trans ?_
      rw [show ((n + 1 : ℕ) : ℤ) - 127 = k + 1 by push_cast; omega]
    · have hneg : (0 : EReal) - (((k + 1 : ℤ) : ℝ) : EReal) = (((-(k + 1) : ℤ) : ℝ) : EReal) := by
        rw [zero_sub]
        push_cast
        norm_cast
      rw [hneg, exp2_int]
      refine (pat_mid (253 - n) (by omega) (by omega)).trans ?_
      rw [show ((253 - n : ℕ) : ℤ) - 127 = -(k + 1) by omega]

end Cert.Exponent

end
-- ==== Proof.GroupValues.lean ====
/-
  What the first grid point leaves in the codes and the scales, read at an index on the extended
  reals: the eight groups' stores compute one function, the scale and the clipped quotient of a
  group of 128 entries.
-/
module

public import proofs.«01_k».proof.Proof.Outs
public import proofs.«01_k».proof.Proof.Exponent
public import Idealize.ShloMosaic.Lib.Pointwise
public import Idealize.ShloMosaic.Lib.Pipeline.ValueKit

@[expose] public section

set_option maxRecDepth 16384

noncomputable section

open Idealize.ShloMosaic

namespace Cert.KernelIdeal.Body

open Cert.KernelIdeal Cert.KernelIdeal.Gen Cert.Exponent

/-- `q` of one group of 128 entries: its greatest absolute value times `1/448` as f32 rounds it. -/
def groupQ (f : Fin 128 → EReal) : EReal :=
  Finset.fold max (Ideal.ofBits FTy.f32 4286578688#32) (fun k => FloatOps.absf (F := Ideal) (φ := .f32) (f k)) Finset.univ *
    Ideal.ofBits FTy.f32 991054117#32

/-- The code of an entry `x` whose group has inverse scale `i`: `x · i` clipped to ±448. -/
def clip (x i : EReal) : EReal :=
  min (Ideal.ofBits FTy.f32 1138753536#32) (max (Ideal.ofBits FTy.f32 3286237184#32) (x * i))

/-- One group's stored scales, at a row. -/
theorem scale_at (v : Vec Ideal S512x128 .bf16) (t : Fin 512) (u : Fin 1) :
    k0_pay5 v (ix2 t u) = kScale (groupQ fun k => v (ix2 t k)) := by
  pointwise [k0_pay5, k0_pay4, k0_pay3, k0_pay2]
  rfl

/-- One group's stored codes, at a row and a column of the group. -/
theorem code_at (v : Vec Ideal S512x128 .bf16) (t : Fin 512) (k : Fin 128) :
    k0_pay7 (F := Ideal) (k0_pay6 v) (Scalar.ofBits .f32 0xC3E00000#32) (Scalar.ofBits .f32 0x43E00000#32) (ix2 t k)
      = clip (v (ix2 t k)) (kInv (groupQ fun k => v (ix2 t k))) := by
  pointwise [k0_pay7, k0_pay6, k0_pay4, k0_pay3, k0_pay2]
  rfl

/-- The scales the first point leaves: the scale of row `t`'s group `g`. -/
theorem scales_at (x0 : Vec Ideal S512x1024 .bf16) (t : Fin 512) (g : Fin 8) :
    scalesOut x0 (ix2 t g) = kScale (groupQ fun k => x0 (ix2 t ⟨128 * g.val + k.val, by omega⟩)) := by
  have e1 : ∀ v : Vec Ideal S512x128 .bf16, k0_pay12 v = k0_pay5 v := fun _ => rfl
  have e2 : ∀ v : Vec Ideal S512x128 .bf16, k0_pay18 (F := Ideal) (k0_pay17 v) = k0_pay5 v := fun _ => rfl
  have e3 : ∀ v : Vec Ideal S512x128 .bf16, k0_pay23 (k0_pay21 v) (k0_pay22 v) 1#32 = k0_pay5 v := fun _ => rfl
  have e4 : ∀ v : Vec Ideal S512x128 .bf16, k0_pay29 (k0_pay26 v) = k0_pay5 v := fun _ => rfl
  have e5 : ∀ v : Vec Ideal S512x128 .bf16,
    k0_pay36 (k0_pay32 v) (iota .tc S512x256 32 [1] iota_S512x256_d1_w32) k0_pay33 = k0_pay5 v := fun _ => rfl
  have e6 : ∀ v : Vec Ideal S512x128 .bf16, k0_pay42 (k0_pay39 v) = k0_pay5 v := fun _ => rfl
  have e7 : ∀ v : Vec Ideal S512x128 .bf16, k0_pay47 v = k0_pay5 v := fun _ => rfl
  unfold scalesOut
  rw [e1, e2, e3, e4, e5, e6, e7]
  clear e1 e2 e3 e4 e5 e6 e7
  canon_tiles x h
  all_goals
    idx_vars x
    rw [scale_at]
    refine congrArg kScale (congrArg groupQ (funext fun k => ?_))
    pointwise [rC_0_0, rC_0_128, rC_0_256, rC_0_384, rC_0_512, rC_0_640, rC_0_768, rC_0_896]
    blk_ext

/-- The codes the first point leaves: entry `(t, 128 g + k)`, clipped by its group's inverse scale. -/
theorem codes_at (x0 : Vec Ideal S512x1024 .bf16) (t : Fin 512) (g : Fin 8) (k : Fin 128) :
    codesOut x0 (ix2 t ⟨128 * g.val + k.val, by omega⟩)
      = clip (x0 (ix2 t ⟨128 * g.val + k.val, by omega⟩))
          (kInv (groupQ fun k => x0 (ix2 t ⟨128 * g.val + k.val, by omega⟩))) := by
  let P (v : Vec Ideal S512x128 .bf16) : FVec Ideal S512x128 .fp8e4m3 :=
    k0_pay7 (k0_pay6 v) (Scalar.ofBits .f32 0xC3E00000#32) (Scalar.ofBits .f32 0x43E00000#32)
  have e1 : ∀ v : Vec Ideal S512x128 .bf16, k0_pay13 (k0_pay8 v) (k0_pay11 v) = P v := fun _ => rfl
  have e2 : ∀ v : Vec Ideal S512x128 .bf16, k0_pay19 (k0_pay14 v) (k0_pay15 v) (k0_pay16 v) 253#32 = P v := fun _ => rfl
  have e3 : ∀ v : Vec Ideal S512x128 .bf16, k0_pay24 (k0_pay20 v) (k0_pay21 v) (k0_pay22 v) = P v := fun _ => rfl
  have e4 : ∀ v : Vec Ideal S512x128 .bf16, k0_pay30 (k0_pay25 v) (k0_pay26 v) = P v := fun _ => rfl
  have e5 : ∀ v : Vec Ideal S512x128 .bf16,
    k0_pay37 (k0_pay31 v) (k0_pay32 v) (iota .tc S512x256 32 [1] iota_S512x256_d1_w32) k0_pay33 = P v := fun _ => rfl
  have e6 : ∀ v : Vec Ideal S512x128 .bf16, k0_pay43 (k0_pay38 v) (k0_pay39 v) = P v := fun _ => rfl
  have e7 : ∀ v : Vec Ideal S512x128 .bf16, k0_pay49 (k0_pay44 v) (k0_pay48 v) = P v := fun _ => rfl
  have hP : ∀ (v : Vec Ideal S512x128 .bf16) (t : Fin 512) (k : Fin 128),
    P v (ix2 t k) = clip (v (ix2 t k)) (kInv (groupQ fun k => v (ix2 t k))) := code_at
  have e0 : ∀ v : Vec Ideal S512x128 .bf16,
    k0_pay7 (k0_pay6 v) (Scalar.ofBits .f32 0xC3E00000#32) (Scalar.ofBits .f32 0x43E00000#32) = P v := fun _ => rfl
  unfold codesOut
  rw [e1, e2, e3, e4, e5, e6, e7, e0]
  clear e1 e2 e3 e4 e5 e6 e7 e0
  clear_value P
  canon_tiles x h
  all_goals
    idx_vars x
    rw [hP]
    refine congrArg₂ clip ?_ (congrArg kInv (congrArg groupQ (funext fun k => ?_)))
    · pointwise [rC_0_0, rC_0_128, rC_0_256, rC_0_384, rC_0_512, rC_0_640, rC_0_768, rC_0_896]
      blk_ext
    · pointwise [rC_0_0, rC_0_128, rC_0_256, rC_0_384, rC_0_512, rC_0_640, rC_0_768, rC_0_896]
      blk_ext

end Cert.KernelIdeal.Body

end
-- ==== Proof.BlockValue.lean ====
/-
  What one grid point leaves in its block of `y`, read at an index on the extended reals: the sum
  over the eight groups of the group's product of codes, scaled by the activations' and then the
  weights' scale.
-/
module

public import proofs.«01_k».proof.Proof.Outs
public import Idealize.ShloMosaic.Lib.Pointwise
public import Idealize.ShloMosaic.Lib.Pipeline.ValueKit

@[expose] public section

set_option maxRecDepth 16384

noncomputable section

open Idealize.ShloMosaic

namespace Cert.KernelIdeal.Body

open Cert.KernelIdeal Cert.KernelIdeal.Gen

/-- The block of `y`, at row `t` and output channel `o` of the block. -/
theorem y_at (x1 : Vec Ideal S512x1024 .fp8e4m3) (x2 : Vec Ideal S8x512 .f32) (x4 : Vec Ideal S512x1024 .fp8e4m3)
    (x5 : Vec Ideal S512x8 .f32) (t o : Fin 512) :
    yOut (F := Ideal) x1 x2 x4 x5 (ix2 t o)
      = ∑ g : Fin 8, (∑ k : Fin 128, (show EReal from x4 (ix2 t ⟨128 * g.val + k.val, by omega⟩))
          * (show EReal from x1 (ix2 o ⟨128 * g.val + k.val, by omega⟩)))
          * (show EReal from x5 (ix2 t g)) * (show EReal from x2 (ix2 g o)) := by
  unfold yOut
  canon_tiles x h
  idx_vars x
  rw [Fin.sum_univ_eight]
  pointwise [k0_pay1, k0_pay50, k0_pay51, k0_pay52, k0_pay53, k0_pay54, k0_pay55, k0_pay56,
    rC_0_0, rC_0_128, rC_0_256, rC_0_384, rC_0_512, rC_0_640, rC_0_768, rC_0_896,
    rS_0_0, rS_0_1, rS_0_2, rS_0_3, rS_0_4, rS_0_5, rS_0_6, rS_0_7,
    rW_0_0, rW_1_0, rW_2_0, rW_3_0, rW_4_0, rW_5_0, rW_6_0, rW_7_0]
  blk_point []

end Cert.KernelIdeal.Body

end
-- ==== Proof.KernelArrays.lean ====
/-
  The kernel's three result arrays after the run, on the extended reals, as functions of the
  arrays its pipeline reads: the activations `X` (512 × 1024), the weight codes `W` (8192 × 1024)
  and the weight scales `S` spread over the output channels (8 × 8192).
-/
module

public import proofs.«01_k».proof.Proof.Run
public import proofs.«01_k».proof.Proof.GroupValues
public import proofs.«01_k».proof.Proof.BlockValue
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Body

open Cert.KernelIdeal Cert.KernelIdeal.Gen Cert.Exponent

variable (m : (ℓ : Loc nD τ sig) → Buf (Elt Ideal) ℓ)

/-- The scales of the activations: row `t`, group `g`. -/
def scaleArr (X : FVec Ideal S512x1024 .bf16) : FVec Ideal S512x8 .f32 := fun i =>
  kScale (groupQ fun k => X (ix2 (i 0) ⟨128 * (i 1).val + k.val, by have := (i 1).isLt; simp at this; omega⟩))

/-- The codes of the activations: row `t`, column `j`, of group `j / 128`. -/
def codeArr (X : FVec Ideal S512x1024 .bf16) : FVec Ideal S512x1024 .fp8e4m3 := fun i =>
  clip (X i) (kInv (groupQ fun k => X (ix2 (i 0) ⟨128 * ((i 1).val / 128) + k.val, by have := (i 1).isLt; simp at this; omega⟩)))

/-- The product: row `t`, output channel `o`. -/
def prodArr (X : FVec Ideal S512x1024 .bf16) (W : FVec Ideal S8192x1024 .fp8e4m3) (S : FVec Ideal S8x8192 .f32) :
    FVec Ideal S512x8192 .bf16 := fun i =>
  ∑ g : Fin 8, (∑ k : Fin 128, codeArr X (ix2 (i 0) ⟨128 * g.val + k.val, by omega⟩)
    * W (ix2 (i 1) ⟨128 * g.val + k.val, by omega⟩)) * scaleArr X (ix2 (i 0) g) * S (ix2 g (i 1))

/-- The windows' block indices at every point. -/
theorem idx_val : ∀ t : Fin cfg0.N, win0_0.index t = ![0, 0] ∧ win0_1.index t = ![t.val, 0] ∧ win0_2.index t = ![0, t.val]
    ∧ win0_3.index t = ![0, t.val] ∧ win0_4.index t = ![0, 0] ∧ win0_5.index t = ![0, 0] :=
  (by decide +kernel : ∀ t : Fin grid0.N, _)

/-- The activations' block is the whole array. -/
theorem iblk_0 (c : Dev nD) (t : Fin cfg0.N) : iblk m c 0 t = V m c main_v3 := by
  blk_ext! [iblk, idx_val t]

/-- The codes the first point leaves, over the whole array of activations. -/
theorem codesAt_eq (c : Dev nD) : codesAt m c = codeArr (V m c main_v3) := by
  unfold codesAt
  rw [iblk_0]
  funext i
  idx_vars i
  obtain ⟨g, k, rfl⟩ : ∃ (g : Fin 8) (k : Fin 128), i1 = ⟨128 * g.val + k.val, by omega⟩ :=
    ⟨⟨i1.val / 128, by omega⟩, ⟨i1.val % 128, by omega⟩, Fin.ext (by simp only []; omega)⟩
  rw [codes_at]
  unfold codeArr
  refine congrArg₂ clip rfl (congrArg kInv (congrArg groupQ (funext fun l => ?_)))
  refine congrArg _ ((ix2_inj ..).2 ⟨rfl, Fin.ext ?_⟩)
  show 128 * g.val + l.val = 128 * ((128 * g.val + k.val) / 128) + l.val
  omega

/-- The scales the first point leaves, over the whole array of activations. -/
theorem scalesAt_eq (c : Dev nD) : scalesAt m c = scaleArr (V m c main_v3) := by
  unfold scalesAt
  rw [iblk_0]
  funext i
  idx_vars i
  rw [scales_at]
  rfl

/-- The array of codes after the run. -/
theorem final_codes (c : Dev nD) : (dats m 0 c).arrAt 4 (cfgs 0).N = codeArr (V m c main_v3) := by
  refine (dats m 0 c).arrAt_eq_of_covers 4 _ (by decide +kernel) fun t _ y => ?_
  blk_simp
  rw [after_4, codesAt_eq]
  blk_ext [idx_val t]

/-- The array of scales after the run. -/
theorem final_scales (c : Dev nD) : (dats m 0 c).arrAt 5 (cfgs 0).N = scaleArr (V m c main_v3) := by
  refine (dats m 0 c).arrAt_eq_of_covers 5 _ (by decide +kernel) fun t _ y => ?_
  blk_simp
  rw [after_5, scalesAt_eq]
  blk_ext [idx_val t]

/-- What a point leaves in its block of `y` is the product at the block's place in the array. -/
theorem point (c : Dev nD) (t : Fin cfg0.N) (y : S512x512.Idx) (j : S512x8192.Idx)
    (hj0 : (j 0 : ℕ) = y 0) (hj1 : (j 1 : ℕ) = t.val * 512 + y 1) :
    yOut (F := Ideal) (iblk m c 1 t) (iblk m c 2 t) (codesAt m c) (scalesAt m c) y
      = prodArr (V m c main_v3) (V m c main_arg1) (V m c main_v2) j := by
  have ht : t.val < 16 := lt_of_lt_of_eq t.isLt N_0
  idx_vars y
  idx_vars j
  rw [y_at, codesAt_eq, scalesAt_eq]
  unfold prodArr
  pointwise
  blk_point [iblk, idx_val t]

/-- The array `y` after the run. -/
theorem final_y (c : Dev nD) : (dats m 0 c).arrAt 3 (cfgs 0).N = prodArr (V m c main_v3) (V m c main_arg1) (V m c main_v2) := by
  refine (dats m 0 c).arrAt_eq_of_covers 3 _ (by decide +kernel) fun t _ y => ?_
  blk_simp
  rw [after_3]
  refine point m c t y _ ?_ ?_
  all_goals (blk_simp [idx_val t] <;> try omega)

end Cert.KernelIdeal.Body

end
-- ==== Proof.ReferenceScales.lean ====
/-
  What the reference computes, on the extended reals, as functions of the arrays it reads: the
  activations `X`, the weight codes `W` and the weight scales `S` spread over the output channels;
  here the definitions, the exponents and the scales.
-/
module

public import proofs.«01_k».proof.Proof.Gen.ReferenceIdeal.Frame
public import proofs.«01_k».proof.Proof.GroupValues
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ReferenceIdeal.Body

open Cert.ReferenceIdeal Cert.ReferenceIdeal.Gen Cert.Exponent
open Cert.KernelIdeal.Body (groupQ clip)

/-- The f32 pattern of `+∞`. -/
theorem inf_word : Ideal.ofBits FTy.f32 2139095040#32 = ⊤ := by
  rw [show (2139095040#32) = IntOp.shli ArithUnit.vector (BitVec.ofNat 32 255) 23#32 by decide +kernel]
  exact pat_top

/-- The f32 pattern of 2. -/
theorem two_word : Ideal.ofBits FTy.f32 1073741824#32 = 2 := by
  rw [show (1073741824#32) = IntOp.shli ArithUnit.vector (BitVec.ofNat 32 128) 23#32 by decide +kernel]
  refine (pat_mid 128 (by norm_num) (by norm_num)).trans ?_
  norm_num
  rfl

/-- A select on the disjunction of two decided conditions is an `if`. -/
theorem select_or (a b : Prop) [Decidable a] [Decidable b] (x y : EReal) :
    Scalar.select (IntOp.ori (BitVec.ofBool (decide a)) (BitVec.ofBool (decide b))) x y = if a ∨ b then x else y := by
  by_cases ha : a <;> by_cases hb : b <;> simp [ha, hb, Scalar.select, IntOp.ori]

/-- The exponent of row `t`'s group `g`. -/
theorem exp_at (X : Vec Ideal S512x1024 .bf16) (t : Fin 512) (g : Fin 8) :
    k0_pay3 X (ix2 t g) = rExp (groupQ fun k => X (ix2 t ⟨128 * g.val + k.val, by omega⟩)) := by
  have hq : (groupQ fun k => X (ix2 t ⟨128 * g.val + k.val, by omega⟩))
      = groupQ fun k => X (ix2 t ⟨g.val * 128 + k.val, by omega⟩) := by
    refine congrArg groupQ (funext fun k => congrArg X ((ix2_inj ..).2 ⟨rfl, Fin.ext ?_⟩))
    show 128 * g.val + k.val = g.val * 128 + k.val
    omega
  rw [hq]
  pointwise [k0_pay3, k0_pay2]
  rw [select_or, inf_word, two_word]
  rfl

/-- The reference's scales: row `t`, group `g`. -/
def refScale (X : FVec Ideal S512x1024 .bf16) : FVec Ideal S512x8 .f32 := fun i =>
  Ideal.exp2 (rExp (groupQ fun k => X (ix2 (i 0) ⟨128 * (i 1).val + k.val, by have := (i 1).isLt; simp at this; omega⟩)))

/-- The reference's codes: row `t`, column `j`, of group `j / 128`. -/
def refCode (X : FVec Ideal S512x1024 .bf16) : FVec Ideal S512x1024 .fp8e4m3 := fun i =>
  clip (X i) (Ideal.exp2 (0 - rExp (groupQ fun k =>
    X (ix2 (i 0) ⟨128 * ((i 1).val / 128) + k.val, by have := (i 1).isLt; simp at this; omega⟩))))

/-- The reference's product: row `t`, output channel `o`. -/
def refProd (X : FVec Ideal S512x1024 .bf16) (W : FVec Ideal S8192x1024 .fp8e4m3) (S : FVec Ideal S8x8192 .f32) :
    FVec Ideal S512x8192 .bf16 := fun i =>
  ∑ g : Fin 8, (∑ k : Fin 128, refCode X (ix2 (i 0) ⟨128 * g.val + k.val, by omega⟩)
    * W (ix2 (i 1) ⟨128 * g.val + k.val, by omega⟩)) * refScale X (ix2 (i 0) g) * S (ix2 g (i 1))

/-- The scales' payload is the reference's scales. -/
theorem pay_scale (X : Vec Ideal S512x1024 .bf16) : k0_pay4 X = refScale X := by
  funext i
  idx_vars i
  pointwise [k0_pay4]
  rw [exp_at]
  rfl

end Cert.ReferenceIdeal.Body

end
-- ==== Proof.ReferenceArrays.lean ====
/-
  The reference's three result arrays after its run, on the extended reals, as functions of the
  arrays it reads: the activations `X`, the weight codes `W` and the weight scales `S` spread over
  the output channels.
-/
module

public import proofs.«01_k».proof.Proof.Gen.ReferenceIdeal.Frame
public import proofs.«01_k».proof.Proof.ReferenceScales
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ReferenceIdeal.Body

open Cert.ReferenceIdeal Cert.ReferenceIdeal.Gen Cert.Exponent
open Cert.KernelIdeal.Body (groupQ clip)

/-- The codes before they are laid out in rows: row `t`, group `g`, entry `k`. -/
theorem code3_at (X : Vec Ideal S512x1024 .bf16) (t : Fin 512) (g : Fin 8) (k : Fin 128) :
    k0_pay5 X (ix3 t g k) = refCode X (ix2 t ⟨128 * g.val + k.val, by omega⟩) := by
  have hE := exp_at X
  obtain ⟨P, hP⟩ : ∃ P, k0_pay3 X = P := ⟨_, rfl⟩
  rw [hP] at hE
  pointwise [k0_pay5, k0_pay2, hP]
  rw [hE]
  refine congrArg₂ clip (congrArg X ((ix2_inj ..).2 ⟨rfl, Fin.ext ?_⟩))
    (congrArg (fun e => Ideal.exp2 (0 - rExp e)) (congrArg groupQ (funext fun l =>
      congrArg X ((ix2_inj ..).2 ⟨rfl, Fin.ext ?_⟩))))
  · show g.val * 128 + k.val = 128 * g.val + k.val
    omega
  · show 128 * g.val + l.val = 128 * ((128 * g.val + k.val) / 128) + l.val
    omega

/-- The codes' payload is the reference's codes. -/
theorem pay_code (X : Vec Ideal S512x1024 .bf16) : k0_pay6 X = refCode X := by
  funext i
  idx_vars i
  obtain ⟨P, hP⟩ : ∃ P, k0_pay5 X = P := ⟨_, rfl⟩
  have hC := code3_at X
  rw [hP] at hC
  pointwise [k0_pay6, hP]
  rw [hC]
  refine congrArg (refCode X) ((ix2_inj ..).2 ⟨rfl, Fin.ext ?_⟩)
  show 128 * (i1.val / 128) + i1.val % 128 = i1.val
  omega

/-- The product's payload is the reference's product. -/
theorem pay_prod (X : Vec Ideal S512x1024 .bf16) (W : Vec Ideal S8192x1024 .fp8e4m3) (S : Vec Ideal S8x8192 .f32) :
    k0_pay1 (k0_pay4 X) (k0_pay7 W) (k0_pay8 X) S = refProd X W S := by
  funext i
  idx_vars i
  obtain ⟨P, hP⟩ : ∃ P, k0_pay5 X = P := ⟨_, rfl⟩
  have hC := code3_at X
  rw [hP] at hC
  rw [pay_scale]
  obtain ⟨Q, hQ⟩ : ∃ Q, refScale X = Q := ⟨_, rfl⟩
  rw [hQ]
  pointwise [k0_pay1, k0_pay7, k0_pay8, hP]
  simp only [hC]
  refine Finset.sum_congr rfl fun g _ => ?_
  refine congrArg₂ (fun a b : EReal => a * b * S (ix2 g i1)) (Finset.sum_congr rfl fun k _ => ?_) (congrFun hQ _).symm
  refine congrArg (fun e : EReal => refCode X (ix2 i0 ⟨128 * g.val + k.val, by omega⟩) * e)
    (congrArg W ((ix2_inj ..).2 ⟨rfl, Fin.ext ?_⟩))
  show g.val * 128 + k.val = 128 * g.val + k.val
  omega

variable (m : (ℓ : Loc nD τ sig) → Buf (Elt Ideal) ℓ)

/-- The inputs' block index at the one point. -/
theorem idx_val : ∀ t : Fin cfg0.N, win0_0.index t = ![0, 0] ∧ win0_1.index t = ![0, 0] ∧ win0_2.index t = ![0, 0] :=
  (by decide +kernel : ∀ t : Fin grid0.N, _)

/-- Every block is its whole array. -/
theorem iblk_0 (c : Dev nD) (t : Fin cfg0.N) : iblk m c 0 t = V m c main_v3 := by
  blk_ext! [iblk, idx_val t]
theorem iblk_1 (c : Dev nD) (t : Fin cfg0.N) : iblk m c 1 t = V m c main_arg1 := by
  blk_ext! [iblk, idx_val t]
theorem iblk_2 (c : Dev nD) (t : Fin cfg0.N) : iblk m c 2 t = V m c main_v2 := by
  blk_ext! [iblk, idx_val t]

/-- The array `y` after the run. -/
theorem final_y (c : Dev nD) : (dats m 0 c).arrAt 3 (cfgs 0).N = refProd (V m c main_v3) (V m c main_arg1) (V m c main_v2) := by
  refine (dats m 0 c).arrAt_eq_of_after_last 3 t0_0 (by decide +kernel) _ fun j => ?_
  blk_simp
  rw [after0_3, iblk_0, iblk_1, iblk_2]
  frame_out
  rw [pay_prod]
  blk_ext

/-- The array of codes after the run. -/
theorem final_codes (c : Dev nD) : (dats m 0 c).arrAt 4 (cfgs 0).N = refCode (V m c main_v3) := by
  refine (dats m 0 c).arrAt_eq_of_after_last 4 t0_0 (by decide +kernel) _ fun j => ?_
  blk_simp
  rw [after0_4, iblk_0, iblk_1, iblk_2]
  frame_out
  rw [pay_code]
  blk_ext

/-- The array of scales after the run. -/
theorem final_scales (c : Dev nD) : (dats m 0 c).arrAt 5 (cfgs 0).N = refScale (V m c main_v3) := by
  refine (dats m 0 c).arrAt_eq_of_after_last 5 t0_0 (by decide +kernel) _ fun j => ?_
  blk_simp
  rw [after0_5, iblk_0, iblk_1, iblk_2]
  frame_out
  rw [pay_scale]
  blk_ext

end Cert.ReferenceIdeal.Body

end
-- ==== Proof.Range.lean ====
/-
  The precondition, read: for every row and group of the activations, `q` (the group's greatest
  absolute value times `1/448`) is 0, `+∞`, or between `2⁻¹²⁶` and `2¹²⁶`.
-/
module

public import proofs.«01_k».proof.Defs
public import proofs.«01_k».proof.Proof.Gen.Pre_scales_in_range
public import proofs.«01_k».proof.Proof.Gen.KernelIdeal.Frame
public import proofs.«01_k».proof.Proof.GroupValues
public import Idealize.ShloMosaic.Lib.Pointwise

@[expose] public section

set_option maxRecDepth 16384

noncomputable section

open Idealize.ShloMosaic Idealize.ShloMosaic.TcCoe Idealize.SL.Sem

namespace Cert.KernelIdeal.Body

open Cert.KernelIdeal Cert.KernelIdeal.Gen Cert.Exponent

/-- The least and the greatest scale bound, as f32 patterns. -/
theorem lo_word : Ideal.ofBits FTy.f32 8388608#32 = (((2 : ℝ) ^ (-126 : ℤ) : ℝ) : EReal) := by
  rw [show (8388608#32) = IntOp.shli ArithUnit.vector (BitVec.ofNat 32 1) 23#32 by decide +kernel]
  refine (pat_mid 1 (by norm_num) (by norm_num)).trans ?_
  norm_num
theorem hi_word : Ideal.ofBits FTy.f32 2122317824#32 = (((2 : ℝ) ^ (126 : ℤ) : ℝ) : EReal) := by
  rw [show (2122317824#32) = IntOp.shli ArithUnit.vector (BitVec.ofNat 32 253) 23#32 by decide +kernel]
  refine (pat_mid 253 (by norm_num) (by norm_num)).trans ?_
  norm_num
theorem inf_word : Ideal.ofBits FTy.f32 2139095040#32 = ⊤ := by
  rw [show (2139095040#32) = IntOp.shli ArithUnit.vector (BitVec.ofNat 32 255) 23#32 by decide +kernel]
  exact pat_top

/-- A combination of decided conditions that answers 1 is their disjunction. -/
theorem of_bits (a b c d : Prop) [Decidable a] [Decidable b] [Decidable c] [Decidable d]
    (h : IntOp.ori (IntOp.ori (BitVec.ofBool (decide a)) (BitVec.ofBool (decide b)))
      (IntOp.andi (BitVec.ofBool (decide c)) (BitVec.ofBool (decide d))) = 1#1) : a ∨ b ∨ (c ∧ d) := by
  by_cases ha : a <;> by_cases hb : b <;> by_cases hc : c <;> by_cases hd : d <;>
    simp [ha, hb, hc, hd, IntOp.ori, IntOp.andi] at h ⊢

/-- The precondition at one row and group. -/
theorem range_at (x : FVec Ideal Cert.KernelIdeal.S2x256x1024 .bf16) (w : FVec Ideal S8192x1024 .fp8e4m3) (s : FVec Ideal S64x8 .f32)
    (h : Cert.Pre_scales_in_range.fn (F := Ideal) x w s = fun _ => 1#1) (t : Fin 512) (g : Fin 8) :
    InRange (groupQ fun k => shapeCast S512x1024 x shapeCasts_S2x256x1024_S512x1024 (ix2 t ⟨128 * g.val + k.val, by omega⟩)) := by
  have h1 := congrFun h (ix2 t g)
  pointwise [Cert.Pre_scales_in_range.fn] at h1
  have h2 := of_bits _ _ _ _ h1
  rw [lo_word, hi_word, inf_word] at h2
  refine Eq.mp (congrArg InRange (congrArg groupQ (funext fun k => ?_))) (show InRange (groupQ fun k =>
    x (ix3 ⟨t.val / 256, by omega⟩ ⟨t.val % 256, by omega⟩ ⟨g.val * 128 + k.val, by omega⟩)) from h2)
  pointwise
  refine congrArg x ((ix3_inj ..).2 ⟨rfl, rfl, Fin.ext ?_⟩)
  show g.val * 128 + k.val = 128 * g.val + k.val
  omega

end Cert.KernelIdeal.Body

end
-- ==== Proof.Equation.lean ====
/-
  The equation: on inputs whose scales are in range, the kernel's three result arrays are the
  reference's.
-/
module

public import proofs.«01_k».proof.Proof.KernelArrays
public import proofs.«01_k».proof.Proof.ReferenceArrays
public import proofs.«01_k».proof.Proof.Range
public import Idealize.ShloMosaic.Lib.Claim

@[expose] public section

set_option maxRecDepth 16384

noncomputable section

open Idealize.ShloMosaic Idealize.ShloMosaic.TcCoe Idealize.SL.Sem

namespace Cert.Equation

open Cert.Exponent Cert.KernelIdeal.Body Cert.ReferenceIdeal.Body

/-- Every group's `q` is in range. -/
def Ranged (X : FVec Ideal Cert.KernelIdeal.S512x1024 .bf16) : Prop :=
  ∀ (t : Fin 512) (g : Fin 8), InRange (groupQ fun k => X (ix2 t ⟨128 * g.val + k.val, by omega⟩))

/-- The scales agree. -/
theorem scale_eq (X : FVec Ideal Cert.KernelIdeal.S512x1024 .bf16) (h : Ranged X) : scaleArr X = refScale X := by
  funext i
  idx_vars i
  exact (scales_eq _ (h i0 i1)).1

/-- The codes agree. -/
theorem code_eq (X : FVec Ideal Cert.KernelIdeal.S512x1024 .bf16) (h : Ranged X) : codeArr X = refCode X := by
  funext i
  idx_vars i
  exact congrArg (clip _) (scales_eq _ (h i0 ⟨i1.val / 128, by omega⟩)).2

/-- The products agree. -/
theorem prod_eq (X : FVec Ideal Cert.KernelIdeal.S512x1024 .bf16) (W : FVec Ideal Cert.KernelIdeal.S8192x1024 .fp8e4m3)
    (S : FVec Ideal Cert.KernelIdeal.S8x8192 .f32) (h : Ranged X) : prodArr X W S = refProd X W S := by
  unfold prodArr refProd
  rw [scale_eq X h, code_eq X h]

section Entry

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The activations the kernel's pipeline reads: the first argument, its two leading axes merged. -/
theorem kernel_X (c : Dev Cert.KernelIdeal.nD) : Cert.KernelIdeal.Gen.V m c Cert.KernelIdeal.main_v3
    = shapeCast Cert.KernelIdeal.S512x1024 (m ((c.tc : Thread Cert.KernelIdeal.nD Cert.KernelIdeal.τ).loc Cert.KernelIdeal.main_arg0))
        Cert.KernelIdeal.Gen.shapeCasts_S2x256x1024_S512x1024 := by
  entry_read
  rfl

/-- The two pipelines read the same arrays when the programs are given the same arguments. -/
theorem same_X (c : Dev Cert.KernelIdeal.nD)
    (h : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) :
    Cert.ReferenceIdeal.Gen.V m' c Cert.ReferenceIdeal.main_v3 = Cert.KernelIdeal.Gen.V m c Cert.KernelIdeal.main_v3 := by
  entry_read
  rw [h]
  rfl
theorem same_W (c : Dev Cert.KernelIdeal.nD)
    (h : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1)) :
    Cert.ReferenceIdeal.Gen.V m' c Cert.ReferenceIdeal.main_arg1 = Cert.KernelIdeal.Gen.V m c Cert.KernelIdeal.main_arg1 := by
  rw [Cert.ReferenceIdeal.Gen.V_main_arg1, Cert.KernelIdeal.Gen.V_main_arg1]
  exact h
theorem same_S (c : Dev Cert.KernelIdeal.nD)
    (h : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2)) :
    Cert.ReferenceIdeal.Gen.V m' c Cert.ReferenceIdeal.main_v2 = Cert.KernelIdeal.Gen.V m c Cert.KernelIdeal.main_v2 := by
  entry_read
  rw [h]
  rfl

/-- Under the precondition the activations the kernel reads are in range. -/
theorem ranged (h : Cert.Pre_KernelIdeal_scales_in_range m) (c : Dev Cert.KernelIdeal.nD) :
    Ranged (Cert.KernelIdeal.Gen.V m c Cert.KernelIdeal.main_v3) := by
  rw [kernel_X]
  exact fun t g => range_at _ _ _ (h c) t g

end Entry

end Cert.Equation

end
-- ==== Proof.lean ====
/-
  The certificate: the frames of the three programs, and the equality of the kernel's three results
  with the reference's on the extended reals wherever the activations' scales are in range.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_scales_in_range
public import proofs.«01_k».proof.Proof.PrintedRun
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The kernel's results are the reference's on the extended reals, under the precondition. -/
theorem algebraic : Cert.algebraic_KernelIdeal_ReferenceIdeal_pre_scales_in_range
    (hKernelIdeal := Cert.KernelIdeal.Gen.facts) (hReferenceIdeal := Cert.ReferenceIdeal.Gen.facts)
    (hPre_scales_in_range := Cert.Pre_scales_in_range.Gen.facts) := by
  intro m g m' g' hpre hagree
  refine ⟨fun c => (Cert.KernelIdeal.Body.dats m 0 c).arrAt 3 Cert.KernelIdeal.cfg0.N,
    fun c => (Cert.KernelIdeal.Body.dats m 0 c).arrAt 4 Cert.KernelIdeal.cfg0.N,
    fun c => (Cert.KernelIdeal.Body.dats m 0 c).arrAt 5 Cert.KernelIdeal.cfg0.N, ?_, ?_⟩
  · run_from Cert.KernelIdeal.Body.run_main m g
  · run_from Cert.ReferenceIdeal.Gen.run_main m' g'
    · refine (Cert.ReferenceIdeal.Body.final_y m' c).trans (Eq.trans ?_ (Cert.KernelIdeal.Body.final_y m c).symm)
      rw [Cert.Equation.same_X m m' c (hagree c).1, Cert.Equation.same_W m m' c (hagree c).2.1,
        Cert.Equation.same_S m m' c (hagree c).2.2]
      exact (Cert.Equation.prod_eq _ _ _ (Cert.Equation.ranged m hpre c)).symm
    · refine (Cert.ReferenceIdeal.Body.final_codes m' c).trans (Eq.trans ?_ (Cert.KernelIdeal.Body.final_codes m c).symm)
      rw [Cert.Equation.same_X m m' c (hagree c).1]
      exact (Cert.Equation.code_eq _ (Cert.Equation.ranged m hpre c)).symm
    · refine (Cert.ReferenceIdeal.Body.final_scales m' c).trans (Eq.trans ?_ (Cert.KernelIdeal.Body.final_scales m c).symm)
      rw [Cert.Equation.same_X m m' c (hagree c).1]
      exact (Cert.Equation.scale_eq _ (Cert.Equation.ranged m hpre c)).symm

/-- Everything the certificate claims. -/
theorem claim : Cert.Claim := ⟨Cert.Kernel.Gen.facts, Cert.KernelIdeal.Gen.facts, Cert.ReferenceIdeal.Gen.facts, Cert.Pre_scales_in_range.Gen.facts,
  fun m g _ => Cert.Kernel.Body.frame m g,
  fun m g _ => Cert.KernelIdeal.Body.frame m g,
  fun m g _ => Cert.KernelIdeal.Body.frame m g,
  fun m g _ => Cert.ReferenceIdeal.Gen.frame m g,
  fun m g _ => Cert.ReferenceIdeal.Gen.frame m g,
  trivial, algebraic⟩

end Cert.Proof

end
